-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S8x256 : Shape := ⟨2, ![8, 256]⟩
abbrev S32x8x256 : Shape := ⟨3, ![32, 8, 256]⟩
abbrev S32 : Shape := ⟨1, ![32]⟩
abbrev S_ : Shape := ⟨0, ![]⟩
abbrev S1 : Shape := ⟨1, ![1]⟩
abbrev S1x8x256 : Shape := ⟨3, ![1, 8, 256]⟩
abbrev S31x8x256 : Shape := ⟨3, ![31, 8, 256]⟩

abbrev nBuf : Space → Nat
  | .hbm => 5
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S512x256, .f32⟩
  | .hbm, ⟨4, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S256x512, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S8x256, .f32⟩
  | .local _ .vmem, ⟨7, _⟩ => ⟨S32x8x256, .f32⟩
  | _, _ => ⟨S256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_136 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v145 : BitVec 32 := Scalar.addi v2 c1_i32_136
  let c32_i32_137 : BitVec 32 := 32#32
  let v146 : BitVec 32 := Scalar.remsi v145 c32_i32_137
  let c8_i32_138 : BitVec 32 := 8#32
  let v147 : BitVec 32 := Scalar.muli v146 c8_i32_138
  let c0_i32_146 : BitVec 32 := 0#32
  ![v147.toNat, 0]
def k0_dev32 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_136 : BitVec 32 := 1#32
  let v145 : BitVec 32 := Scalar.addi v2 c1_i32_136
  let c32_i32_137 : BitVec 32 := 32#32
  let v146 : BitVec 32 := Scalar.remsi v145 c32_i32_137
  let c1_i32_142 : BitVec 32 := 1#32
  let v148 : BitVec 32 := Scalar.muli v146 c1_i32_142
  let v149 : BitVec 32 := Scalar.addi c0_i32_143 v148
  v149.toNat
def k0_dev33 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_147 : BitVec 32 := 2#32
  let v157 : BitVec 32 := Scalar.addi v2 c2_i32_147
  let c32_i32_148 : BitVec 32 := 32#32
  let v158 : BitVec 32 := Scalar.remsi v157 c32_i32_148
  let c1_i32_153 : BitVec 32 := 1#32
  let v160 : BitVec 32 := Scalar.muli v158 c1_i32_153
  let v161 : BitVec 32 := Scalar.addi c0_i32_154 v160
  v161.toNat
def k0_dev34 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_158 : BitVec 32 := 3#32
  let v169 : BitVec 32 := Scalar.addi v2 c3_i32_158
  let c32_i32_159 : BitVec 32 := 32#32
  let v170 : BitVec 32 := Scalar.remsi v169 c32_i32_159
  let c1_i32_164 : BitVec 32 := 1#32
  let v172 : BitVec 32 := Scalar.muli v170 c1_i32_164
  let v173 : BitVec 32 := Scalar.addi c0_i32_165 v172
  v173.toNat
def k0_dev35 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_169 : BitVec 32 := 4#32
  let v181 : BitVec 32 := Scalar.addi v2 c4_i32_169
  let c32_i32_170 : BitVec 32 := 32#32
  let v182 : BitVec 32 := Scalar.remsi v181 c32_i32_170
  let c1_i32_175 : BitVec 32 := 1#32
  let v184 : BitVec 32 := Scalar.muli v182 c1_i32_175
  let v185 : BitVec 32 := Scalar.addi c0_i32_176 v184
  v185.toNat
def k0_dev36 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_180 : BitVec 32 := 5#32
  let v193 : BitVec 32 := Scalar.addi v2 c5_i32_180
  let c32_i32_181 : BitVec 32 := 32#32
  let v194 : BitVec 32 := Scalar.remsi v193 c32_i32_181
  let c1_i32_186 : BitVec 32 := 1#32
  let v196 : BitVec 32 := Scalar.muli v194 c1_i32_186
  let v197 : BitVec 32 := Scalar.addi c0_i32_187 v196
  v197.toNat
def k0_dev37 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_191 : BitVec 32 := 6#32
  let v205 : BitVec 32 := Scalar.addi v2 c6_i32_191
  let c32_i32_192 : BitVec 32 := 32#32
  let v206 : BitVec 32 := Scalar.remsi v205 c32_i32_192
  let c1_i32_197 : BitVec 32 := 1#32
  let v208 : BitVec 32 := Scalar.muli v206 c1_i32_197
  let v209 : BitVec 32 := Scalar.addi c0_i32_198 v208
  v209.toNat
def k0_dev38 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_202 : BitVec 32 := 7#32
  let v217 : BitVec 32 := Scalar.addi v2 c7_i32_202
  let c32_i32_203 : BitVec 32 := 32#32
  let v218 : BitVec 32 := Scalar.remsi v217 c32_i32_203
  let c1_i32_208 : BitVec 32 := 1#32
  let v220 : BitVec 32 := Scalar.muli v218 c1_i32_208
  let v221 : BitVec 32 := Scalar.addi c0_i32_209 v220
  v221.toNat
def k0_dev39 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_213 : BitVec 32 := 8#32
  let v229 : BitVec 32 := Scalar.addi v2 c8_i32_213
  let c32_i32_214 : BitVec 32 := 32#32
  let v230 : BitVec 32 := Scalar.remsi v229 c32_i32_214
  let c1_i32_219 : BitVec 32 := 1#32
  let v232 : BitVec 32 := Scalar.muli v230 c1_i32_219
  let v233 : BitVec 32 := Scalar.addi c0_i32_220 v232
  v233.toNat
def k0_dev40 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_224 : BitVec 32 := 9#32
  let v241 : BitVec 32 := Scalar.addi v2 c9_i32_224
  let c32_i32_225 : BitVec 32 := 32#32
  let v242 : BitVec 32 := Scalar.remsi v241 c32_i32_225
  let c1_i32_230 : BitVec 32 := 1#32
  let v244 : BitVec 32 := Scalar.muli v242 c1_i32_230
  let v245 : BitVec 32 := Scalar.addi c0_i32_231 v244
  v245.toNat
def k0_dev41 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_235 : BitVec 32 := 10#32
  let v253 : BitVec 32 := Scalar.addi v2 c10_i32_235
  let c32_i32_236 : BitVec 32 := 32#32
  let v254 : BitVec 32 := Scalar.remsi v253 c32_i32_236
  let c1_i32_241 : BitVec 32 := 1#32
  let v256 : BitVec 32 := Scalar.muli v254 c1_i32_241
  let v257 : BitVec 32 := Scalar.addi c0_i32_242 v256
  v257.toNat
def k0_dev42 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_246 : BitVec 32 := 11#32
  let v265 : BitVec 32 := Scalar.addi v2 c11_i32_246
  let c32_i32_247 : BitVec 32 := 32#32
  let v266 : BitVec 32 := Scalar.remsi v265 c32_i32_247
  let c1_i32_252 : BitVec 32 := 1#32
  let v268 : BitVec 32 := Scalar.muli v266 c1_i32_252
  let v269 : BitVec 32 := Scalar.addi c0_i32_253 v268
  v269.toNat
def k0_dev43 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_257 : BitVec 32 := 12#32
  let v277 : BitVec 32 := Scalar.addi v2 c12_i32_257
  let c32_i32_258 : BitVec 32 := 32#32
  let v278 : BitVec 32 := Scalar.remsi v277 c32_i32_258
  let c1_i32_263 : BitVec 32 := 1#32
  let v280 : BitVec 32 := Scalar.muli v278 c1_i32_263
  let v281 : BitVec 32 := Scalar.addi c0_i32_264 v280
  v281.toNat
def k0_dev44 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_268 : BitVec 32 := 13#32
  let v289 : BitVec 32 := Scalar.addi v2 c13_i32_268
  let c32_i32_269 : BitVec 32 := 32#32
  let v290 : BitVec 32 := Scalar.remsi v289 c32_i32_269
  let c1_i32_274 : BitVec 32 := 1#32
  let v292 : BitVec 32 := Scalar.muli v290 c1_i32_274
  let v293 : BitVec 32 := Scalar.addi c0_i32_275 v292
  v293.toNat
def k0_dev45 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_279 : BitVec 32 := 14#32
  let v301 : BitVec 32 := Scalar.addi v2 c14_i32_279
  let c32_i32_280 : BitVec 32 := 32#32
  let v302 : BitVec 32 := Scalar.remsi v301 c32_i32_280
  let c1_i32_285 : BitVec 32 := 1#32
  let v304 : BitVec 32 := Scalar.muli v302 c1_i32_285
  let v305 : BitVec 32 := Scalar.addi c0_i32_286 v304
  v305.toNat
def k0_dev46 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_290 : BitVec 32 := 15#32
  let v313 : BitVec 32 := Scalar.addi v2 c15_i32_290
  let c32_i32_291 : BitVec 32 := 32#32
  let v314 : BitVec 32 := Scalar.remsi v313 c32_i32_291
  let c1_i32_296 : BitVec 32 := 1#32
  let v316 : BitVec 32 := Scalar.muli v314 c1_i32_296
  let v317 : BitVec 32 := Scalar.addi c0_i32_297 v316
  v317.toNat
def k0_dev47 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_301 : BitVec 32 := 16#32
  let v325 : BitVec 32 := Scalar.addi v2 c16_i32_301
  let c32_i32_302 : BitVec 32 := 32#32
  let v326 : BitVec 32 := Scalar.remsi v325 c32_i32_302
  let c1_i32_307 : BitVec 32 := 1#32
  let v328 : BitVec 32 := Scalar.muli v326 c1_i32_307
  let v329 : BitVec 32 := Scalar.addi c0_i32_308 v328
  v329.toNat
def k0_dev48 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_312 : BitVec 32 := 17#32
  let v337 : BitVec 32 := Scalar.addi v2 c17_i32_312
  let c32_i32_313 : BitVec 32 := 32#32
  let v338 : BitVec 32 := Scalar.remsi v337 c32_i32_313
  let c1_i32_318 : BitVec 32 := 1#32
  let v340 : BitVec 32 := Scalar.muli v338 c1_i32_318
  let v341 : BitVec 32 := Scalar.addi c0_i32_319 v340
  v341.toNat
def k0_dev49 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_323 : BitVec 32 := 18#32
  let v349 : BitVec 32 := Scalar.addi v2 c18_i32_323
  let c32_i32_324 : BitVec 32 := 32#32
  let v350 : BitVec 32 := Scalar.remsi v349 c32_i32_324
  let c1_i32_329 : BitVec 32 := 1#32
  let v352 : BitVec 32 := Scalar.muli v350 c1_i32_329
  let v353 : BitVec 32 := Scalar.addi c0_i32_330 v352
  v353.toNat
def k0_dev50 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_334 : BitVec 32 := 19#32
  let v361 : BitVec 32 := Scalar.addi v2 c19_i32_334
  let c32_i32_335 : BitVec 32 := 32#32
  let v362 : BitVec 32 := Scalar.remsi v361 c32_i32_335
  let c1_i32_340 : BitVec 32 := 1#32
  let v364 : BitVec 32 := Scalar.muli v362 c1_i32_340
  let v365 : BitVec 32 := Scalar.addi c0_i32_341 v364
  v365.toNat
def k0_dev51 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_345 : BitVec 32 := 20#32
  let v373 : BitVec 32 := Scalar.addi v2 c20_i32_345
  let c32_i32_346 : BitVec 32 := 32#32
  let v374 : BitVec 32 := Scalar.remsi v373 c32_i32_346
  let c1_i32_351 : BitVec 32 := 1#32
  let v376 : BitVec 32 := Scalar.muli v374 c1_i32_351
  let v377 : BitVec 32 := Scalar.addi c0_i32_352 v376
  v377.toNat
def k0_dev52 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_356 : BitVec 32 := 21#32
  let v385 : BitVec 32 := Scalar.addi v2 c21_i32_356
  let c32_i32_357 : BitVec 32 := 32#32
  let v386 : BitVec 32 := Scalar.remsi v385 c32_i32_357
  let c1_i32_362 : BitVec 32 := 1#32
  let v388 : BitVec 32 := Scalar.muli v386 c1_i32_362
  let v389 : BitVec 32 := Scalar.addi c0_i32_363 v388
  v389.toNat
def k0_dev53 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_367 : BitVec 32 := 22#32
  let v397 : BitVec 32 := Scalar.addi v2 c22_i32_367
  let c32_i32_368 : BitVec 32 := 32#32
  let v398 : BitVec 32 := Scalar.remsi v397 c32_i32_368
  let c1_i32_373 : BitVec 32 := 1#32
  let v400 : BitVec 32 := Scalar.muli v398 c1_i32_373
  let v401 : BitVec 32 := Scalar.addi c0_i32_374 v400
  v401.toNat
def k0_dev54 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_378 : BitVec 32 := 23#32
  let v409 : BitVec 32 := Scalar.addi v2 c23_i32_378
  let c32_i32_379 : BitVec 32 := 32#32
  let v410 : BitVec 32 := Scalar.remsi v409 c32_i32_379
  let c1_i32_384 : BitVec 32 := 1#32
  let v412 : BitVec 32 := Scalar.muli v410 c1_i32_384
  let v413 : BitVec 32 := Scalar.addi c0_i32_385 v412
  v413.toNat
def k0_dev55 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_389 : BitVec 32 := 24#32
  let v421 : BitVec 32 := Scalar.addi v2 c24_i32_389
  let c32_i32_390 : BitVec 32 := 32#32
  let v422 : BitVec 32 := Scalar.remsi v421 c32_i32_390
  let c1_i32_395 : BitVec 32 := 1#32
  let v424 : BitVec 32 := Scalar.muli v422 c1_i32_395
  let v425 : BitVec 32 := Scalar.addi c0_i32_396 v424
  v425.toNat
def k0_dev56 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_400 : BitVec 32 := 25#32
  let v433 : BitVec 32 := Scalar.addi v2 c25_i32_400
  let c32_i32_401 : BitVec 32 := 32#32
  let v434 : BitVec 32 := Scalar.remsi v433 c32_i32_401
  let c1_i32_406 : BitVec 32 := 1#32
  let v436 : BitVec 32 := Scalar.muli v434 c1_i32_406
  let v437 : BitVec 32 := Scalar.addi c0_i32_407 v436
  v437.toNat
def k0_dev57 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_411 : BitVec 32 := 26#32
  let v445 : BitVec 32 := Scalar.addi v2 c26_i32_411
  let c32_i32_412 : BitVec 32 := 32#32
  let v446 : BitVec 32 := Scalar.remsi v445 c32_i32_412
  let c1_i32_417 : BitVec 32 := 1#32
  let v448 : BitVec 32 := Scalar.muli v446 c1_i32_417
  let v449 : BitVec 32 := Scalar.addi c0_i32_418 v448
  v449.toNat
def k0_dev58 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_422 : BitVec 32 := 27#32
  let v457 : BitVec 32 := Scalar.addi v2 c27_i32_422
  let c32_i32_423 : BitVec 32 := 32#32
  let v458 : BitVec 32 := Scalar.remsi v457 c32_i32_423
  let c1_i32_428 : BitVec 32 := 1#32
  let v460 : BitVec 32 := Scalar.muli v458 c1_i32_428
  let v461 : BitVec 32 := Scalar.addi c0_i32_429 v460
  v461.toNat
def k0_dev59 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_433 : BitVec 32 := 28#32
  let v469 : BitVec 32 := Scalar.addi v2 c28_i32_433
  let c32_i32_434 : BitVec 32 := 32#32
  let v470 : BitVec 32 := Scalar.remsi v469 c32_i32_434
  let c1_i32_439 : BitVec 32 := 1#32
  let v472 : BitVec 32 := Scalar.muli v470 c1_i32_439
  let v473 : BitVec 32 := Scalar.addi c0_i32_440 v472
  v473.toNat
def k0_dev60 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_444 : BitVec 32 := 29#32
  let v481 : BitVec 32 := Scalar.addi v2 c29_i32_444
  let c32_i32_445 : BitVec 32 := 32#32
  let v482 : BitVec 32 := Scalar.remsi v481 c32_i32_445
  let c1_i32_450 : BitVec 32 := 1#32
  let v484 : BitVec 32 := Scalar.muli v482 c1_i32_450
  let v485 : BitVec 32 := Scalar.addi c0_i32_451 v484
  v485.toNat
def k0_dev61 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_455 : BitVec 32 := 30#32
  let v493 : BitVec 32 := Scalar.addi v2 c30_i32_455
  let c32_i32_456 : BitVec 32 := 32#32
  let v494 : BitVec 32 := Scalar.remsi v493 c32_i32_456
  let c1_i32_461 : BitVec 32 := 1#32
  let v496 : BitVec 32 := Scalar.muli v494 c1_i32_461
  let v497 : BitVec 32 := Scalar.addi c0_i32_462 v496
  v497.toNat
def k0_dev62 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_466 : BitVec 32 := 31#32
  let v505 : BitVec 32 := Scalar.addi v2 c31_i32_466
  let c32_i32_467 : BitVec 32 := 32#32
  let v506 : BitVec 32 := Scalar.remsi v505 c32_i32_467
  let c1_i32_472 : BitVec 32 := 1#32
  let v508 : BitVec 32 := Scalar.muli v506 c1_i32_472
  let v509 : BitVec 32 := Scalar.addi c0_i32_473 v508
  v509.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_725 : BitVec 32 := 8#32
  let v734 : BitVec 32 := Scalar.muli v2 c8_i32_725
  let v735 : Index := Scalar.indexCast v734
  let c0_726 : Index := 0#32
  ![v735.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_736 : BitVec 32 := 8#32
  let v748 : BitVec 32 := Scalar.muli v2 c8_i32_736
  let c0_i32_741 : BitVec 32 := 0#32
  ![v748.toNat, 0]
def k0_dev63 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_734 : BitVec 32 := 1#32
  let v746 : BitVec 32 := Scalar.addi v2 c1_i32_734
  let c32_i32_735 : BitVec 32 := 32#32
  let v747 : BitVec 32 := Scalar.remsi v746 c32_i32_735
  let c1_i32_739 : BitVec 32 := 1#32
  let v749 : BitVec 32 := Scalar.muli v747 c1_i32_739
  let v750 : BitVec 32 := Scalar.addi c0_i32_740 v749
  v750.toNat
def k0_dev64 (d0 : Dev nD) : Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_742 : BitVec 32 := 2#32
  let v756 : BitVec 32 := Scalar.addi v2 c2_i32_742
  let c32_i32_743 : BitVec 32 := 32#32
  let v757 : BitVec 32 := Scalar.remsi v756 c32_i32_743
  let c1_i32_747 : BitVec 32 := 1#32
  let v759 : BitVec 32 := Scalar.muli v757 c1_i32_747
  let v760 : BitVec 32 := Scalar.addi c0_i32_748 v759
  v760.toNat
def k0_dev65 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_750 : BitVec 32 := 3#32
  let v766 : BitVec 32 := Scalar.addi v2 c3_i32_750
  let c32_i32_751 : BitVec 32 := 32#32
  let v767 : BitVec 32 := Scalar.remsi v766 c32_i32_751
  let c1_i32_755 : BitVec 32 := 1#32
  let v769 : BitVec 32 := Scalar.muli v767 c1_i32_755
  let v770 : BitVec 32 := Scalar.addi c0_i32_756 v769
  v770.toNat
def k0_dev66 (d0 : Dev nD) : Nat :=
  let c0_i32_764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_758 : BitVec 32 := 4#32
  let v776 : BitVec 32 := Scalar.addi v2 c4_i32_758
  let c32_i32_759 : BitVec 32 := 32#32
  let v777 : BitVec 32 := Scalar.remsi v776 c32_i32_759
  let c1_i32_763 : BitVec 32 := 1#32
  let v779 : BitVec 32 := Scalar.muli v777 c1_i32_763
  let v780 : BitVec 32 := Scalar.addi c0_i32_764 v779
  v780.toNat
def k0_dev67 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_766 : BitVec 32 := 5#32
  let v786 : BitVec 32 := Scalar.addi v2 c5_i32_766
  let c32_i32_767 : BitVec 32 := 32#32
  let v787 : BitVec 32 := Scalar.remsi v786 c32_i32_767
  let c1_i32_771 : BitVec 32 := 1#32
  let v789 : BitVec 32 := Scalar.muli v787 c1_i32_771
  let v790 : BitVec 32 := Scalar.addi c0_i32_772 v789
  v790.toNat
def k0_dev68 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_774 : BitVec 32 := 6#32
  let v796 : BitVec 32 := Scalar.addi v2 c6_i32_774
  let c32_i32_775 : BitVec 32 := 32#32
  let v797 : BitVec 32 := Scalar.remsi v796 c32_i32_775
  let c1_i32_779 : BitVec 32 := 1#32
  let v799 : BitVec 32 := Scalar.muli v797 c1_i32_779
  let v800 : BitVec 32 := Scalar.addi c0_i32_780 v799
  v800.toNat
def k0_dev69 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_782 : BitVec 32 := 7#32
  let v806 : BitVec 32 := Scalar.addi v2 c7_i32_782
  let c32_i32_783 : BitVec 32 := 32#32
  let v807 : BitVec 32 := Scalar.remsi v806 c32_i32_783
  let c1_i32_787 : BitVec 32 := 1#32
  let v809 : BitVec 32 := Scalar.muli v807 c1_i32_787
  let v810 : BitVec 32 := Scalar.addi c0_i32_788 v809
  v810.toNat
def k0_dev70 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_790 : BitVec 32 := 8#32
  let v816 : BitVec 32 := Scalar.addi v2 c8_i32_790
  let c32_i32_791 : BitVec 32 := 32#32
  let v817 : BitVec 32 := Scalar.remsi v816 c32_i32_791
  let c1_i32_795 : BitVec 32 := 1#32
  let v819 : BitVec 32 := Scalar.muli v817 c1_i32_795
  let v820 : BitVec 32 := Scalar.addi c0_i32_796 v819
  v820.toNat
def k0_dev71 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_798 : BitVec 32 := 9#32
  let v826 : BitVec 32 := Scalar.addi v2 c9_i32_798
  let c32_i32_799 : BitVec 32 := 32#32
  let v827 : BitVec 32 := Scalar.remsi v826 c32_i32_799
  let c1_i32_803 : BitVec 32 := 1#32
  let v829 : BitVec 32 := Scalar.muli v827 c1_i32_803
  let v830 : BitVec 32 := Scalar.addi c0_i32_804 v829
  v830.toNat
def k0_dev72 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_806 : BitVec 32 := 10#32
  let v836 : BitVec 32 := Scalar.addi v2 c10_i32_806
  let c32_i32_807 : BitVec 32 := 32#32
  let v837 : BitVec 32 := Scalar.remsi v836 c32_i32_807
  let c1_i32_811 : BitVec 32 := 1#32
  let v839 : BitVec 32 := Scalar.muli v837 c1_i32_811
  let v840 : BitVec 32 := Scalar.addi c0_i32_812 v839
  v840.toNat
def k0_dev73 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_814 : BitVec 32 := 11#32
  let v846 : BitVec 32 := Scalar.addi v2 c11_i32_814
  let c32_i32_815 : BitVec 32 := 32#32
  let v847 : BitVec 32 := Scalar.remsi v846 c32_i32_815
  let c1_i32_819 : BitVec 32 := 1#32
  let v849 : BitVec 32 := Scalar.muli v847 c1_i32_819
  let v850 : BitVec 32 := Scalar.addi c0_i32_820 v849
  v850.toNat
def k0_dev74 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_822 : BitVec 32 := 12#32
  let v856 : BitVec 32 := Scalar.addi v2 c12_i32_822
  let c32_i32_823 : BitVec 32 := 32#32
  let v857 : BitVec 32 := Scalar.remsi v856 c32_i32_823
  let c1_i32_827 : BitVec 32 := 1#32
  let v859 : BitVec 32 := Scalar.muli v857 c1_i32_827
  let v860 : BitVec 32 := Scalar.addi c0_i32_828 v859
  v860.toNat
def k0_dev75 (d0 : Dev nD) : Nat :=
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_830 : BitVec 32 := 13#32
  let v866 : BitVec 32 := Scalar.addi v2 c13_i32_830
  let c32_i32_831 : BitVec 32 := 32#32
  let v867 : BitVec 32 := Scalar.remsi v866 c32_i32_831
  let c1_i32_835 : BitVec 32 := 1#32
  let v869 : BitVec 32 := Scalar.muli v867 c1_i32_835
  let v870 : BitVec 32 := Scalar.addi c0_i32_836 v869
  v870.toNat
def k0_dev76 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_838 : BitVec 32 := 14#32
  let v876 : BitVec 32 := Scalar.addi v2 c14_i32_838
  let c32_i32_839 : BitVec 32 := 32#32
  let v877 : BitVec 32 := Scalar.remsi v876 c32_i32_839
  let c1_i32_843 : BitVec 32 := 1#32
  let v879 : BitVec 32 := Scalar.muli v877 c1_i32_843
  let v880 : BitVec 32 := Scalar.addi c0_i32_844 v879
  v880.toNat
def k0_dev77 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_846 : BitVec 32 := 15#32
  let v886 : BitVec 32 := Scalar.addi v2 c15_i32_846
  let c32_i32_847 : BitVec 32 := 32#32
  let v887 : BitVec 32 := Scalar.remsi v886 c32_i32_847
  let c1_i32_851 : BitVec 32 := 1#32
  let v889 : BitVec 32 := Scalar.muli v887 c1_i32_851
  let v890 : BitVec 32 := Scalar.addi c0_i32_852 v889
  v890.toNat
def k0_dev78 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_854 : BitVec 32 := 16#32
  let v896 : BitVec 32 := Scalar.addi v2 c16_i32_854
  let c32_i32_855 : BitVec 32 := 32#32
  let v897 : BitVec 32 := Scalar.remsi v896 c32_i32_855
  let c1_i32_859 : BitVec 32 := 1#32
  let v899 : BitVec 32 := Scalar.muli v897 c1_i32_859
  let v900 : BitVec 32 := Scalar.addi c0_i32_860 v899
  v900.toNat
def k0_dev79 (d0 : Dev nD) : Nat :=
  let c0_i32_868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_862 : BitVec 32 := 17#32
  let v906 : BitVec 32 := Scalar.addi v2 c17_i32_862
  let c32_i32_863 : BitVec 32 := 32#32
  let v907 : BitVec 32 := Scalar.remsi v906 c32_i32_863
  let c1_i32_867 : BitVec 32 := 1#32
  let v909 : BitVec 32 := Scalar.muli v907 c1_i32_867
  let v910 : BitVec 32 := Scalar.addi c0_i32_868 v909
  v910.toNat
def k0_dev80 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_870 : BitVec 32 := 18#32
  let v916 : BitVec 32 := Scalar.addi v2 c18_i32_870
  let c32_i32_871 : BitVec 32 := 32#32
  let v917 : BitVec 32 := Scalar.remsi v916 c32_i32_871
  let c1_i32_875 : BitVec 32 := 1#32
  let v919 : BitVec 32 := Scalar.muli v917 c1_i32_875
  let v920 : BitVec 32 := Scalar.addi c0_i32_876 v919
  v920.toNat
def k0_dev81 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_878 : BitVec 32 := 19#32
  let v926 : BitVec 32 := Scalar.addi v2 c19_i32_878
  let c32_i32_879 : BitVec 32 := 32#32
  let v927 : BitVec 32 := Scalar.remsi v926 c32_i32_879
  let c1_i32_883 : BitVec 32 := 1#32
  let v929 : BitVec 32 := Scalar.muli v927 c1_i32_883
  let v930 : BitVec 32 := Scalar.addi c0_i32_884 v929
  v930.toNat
def k0_dev82 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_886 : BitVec 32 := 20#32
  let v936 : BitVec 32 := Scalar.addi v2 c20_i32_886
  let c32_i32_887 : BitVec 32 := 32#32
  let v937 : BitVec 32 := Scalar.remsi v936 c32_i32_887
  let c1_i32_891 : BitVec 32 := 1#32
  let v939 : BitVec 32 := Scalar.muli v937 c1_i32_891
  let v940 : BitVec 32 := Scalar.addi c0_i32_892 v939
  v940.toNat
def k0_dev83 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_894 : BitVec 32 := 21#32
  let v946 : BitVec 32 := Scalar.addi v2 c21_i32_894
  let c32_i32_895 : BitVec 32 := 32#32
  let v947 : BitVec 32 := Scalar.remsi v946 c32_i32_895
  let c1_i32_899 : BitVec 32 := 1#32
  let v949 : BitVec 32 := Scalar.muli v947 c1_i32_899
  let v950 : BitVec 32 := Scalar.addi c0_i32_900 v949
  v950.toNat
def k0_dev84 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_902 : BitVec 32 := 22#32
  let v956 : BitVec 32 := Scalar.addi v2 c22_i32_902
  let c32_i32_903 : BitVec 32 := 32#32
  let v957 : BitVec 32 := Scalar.remsi v956 c32_i32_903
  let c1_i32_907 : BitVec 32 := 1#32
  let v959 : BitVec 32 := Scalar.muli v957 c1_i32_907
  let v960 : BitVec 32 := Scalar.addi c0_i32_908 v959
  v960.toNat
def k0_dev85 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_910 : BitVec 32 := 23#32
  let v966 : BitVec 32 := Scalar.addi v2 c23_i32_910
  let c32_i32_911 : BitVec 32 := 32#32
  let v967 : BitVec 32 := Scalar.remsi v966 c32_i32_911
  let c1_i32_915 : BitVec 32 := 1#32
  let v969 : BitVec 32 := Scalar.muli v967 c1_i32_915
  let v970 : BitVec 32 := Scalar.addi c0_i32_916 v969
  v970.toNat
def k0_dev86 (d0 : Dev nD) : Nat :=
  let c0_i32_924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_918 : BitVec 32 := 24#32
  let v976 : BitVec 32 := Scalar.addi v2 c24_i32_918
  let c32_i32_919 : BitVec 32 := 32#32
  let v977 : BitVec 32 := Scalar.remsi v976 c32_i32_919
  let c1_i32_923 : BitVec 32 := 1#32
  let v979 : BitVec 32 := Scalar.muli v977 c1_i32_923
  let v980 : BitVec 32 := Scalar.addi c0_i32_924 v979
  v980.toNat
def k0_dev87 (d0 : Dev nD) : Nat :=
  let c0_i32_932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_926 : BitVec 32 := 25#32
  let v986 : BitVec 32 := Scalar.addi v2 c25_i32_926
  let c32_i32_927 : BitVec 32 := 32#32
  let v987 : BitVec 32 := Scalar.remsi v986 c32_i32_927
  let c1_i32_931 : BitVec 32 := 1#32
  let v989 : BitVec 32 := Scalar.muli v987 c1_i32_931
  let v990 : BitVec 32 := Scalar.addi c0_i32_932 v989
  v990.toNat
def k0_dev88 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_934 : BitVec 32 := 26#32
  let v996 : BitVec 32 := Scalar.addi v2 c26_i32_934
  let c32_i32_935 : BitVec 32 := 32#32
  let v997 : BitVec 32 := Scalar.remsi v996 c32_i32_935
  let c1_i32_939 : BitVec 32 := 1#32
  let v999 : BitVec 32 := Scalar.muli v997 c1_i32_939
  let v1000 : BitVec 32 := Scalar.addi c0_i32_940 v999
  v1000.toNat
def k0_dev89 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_942 : BitVec 32 := 27#32
  let v1006 : BitVec 32 := Scalar.addi v2 c27_i32_942
  let c32_i32_943 : BitVec 32 := 32#32
  let v1007 : BitVec 32 := Scalar.remsi v1006 c32_i32_943
  let c1_i32_947 : BitVec 32 := 1#32
  let v1009 : BitVec 32 := Scalar.muli v1007 c1_i32_947
  let v1010 : BitVec 32 := Scalar.addi c0_i32_948 v1009
  v1010.toNat
def k0_dev90 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_950 : BitVec 32 := 28#32
  let v1016 : BitVec 32 := Scalar.addi v2 c28_i32_950
  let c32_i32_951 : BitVec 32 := 32#32
  let v1017 : BitVec 32 := Scalar.remsi v1016 c32_i32_951
  let c1_i32_955 : BitVec 32 := 1#32
  let v1019 : BitVec 32 := Scalar.muli v1017 c1_i32_955
  let v1020 : BitVec 32 := Scalar.addi c0_i32_956 v1019
  v1020.toNat
def k0_dev91 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_958 : BitVec 32 := 29#32
  let v1026 : BitVec 32 := Scalar.addi v2 c29_i32_958
  let c32_i32_959 : BitVec 32 := 32#32
  let v1027 : BitVec 32 := Scalar.remsi v1026 c32_i32_959
  let c1_i32_963 : BitVec 32 := 1#32
  let v1029 : BitVec 32 := Scalar.muli v1027 c1_i32_963
  let v1030 : BitVec 32 := Scalar.addi c0_i32_964 v1029
  v1030.toNat
def k0_dev92 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_966 : BitVec 32 := 30#32
  let v1036 : BitVec 32 := Scalar.addi v2 c30_i32_966
  let c32_i32_967 : BitVec 32 := 32#32
  let v1037 : BitVec 32 := Scalar.remsi v1036 c32_i32_967
  let c1_i32_971 : BitVec 32 := 1#32
  let v1039 : BitVec 32 := Scalar.muli v1037 c1_i32_971
  let v1040 : BitVec 32 := Scalar.addi c0_i32_972 v1039
  v1040.toNat
def k0_dev93 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_974 : BitVec 32 := 31#32
  let v1046 : BitVec 32 := Scalar.addi v2 c31_i32_974
  let c32_i32_975 : BitVec 32 := 32#32
  let v1047 : BitVec 32 := Scalar.remsi v1046 c32_i32_975
  let c1_i32_979 : BitVec 32 := 1#32
  let v1049 : BitVec 32 := Scalar.muli v1047 c1_i32_979
  let v1050 : BitVec 32 := Scalar.addi c0_i32_980 v1049
  v1050.toNat
def k0_off4 (d0 : Dev nD) (c1_i32_982 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1056 : BitVec 32 := Scalar.subi v2 c1_i32_982
  let c32_i32_983 : BitVec 32 := 32#32
  let v1057 : BitVec 32 := Scalar.addi v1056 c32_i32_983
  let c32_i32_984 : BitVec 32 := 32#32
  let v1058 : BitVec 32 := Scalar.remsi v1057 c32_i32_984
  let c8_i32_985 : BitVec 32 := 8#32
  let v1059 : BitVec 32 := Scalar.muli v1058 c8_i32_985
  let c0_i32_990 : BitVec 32 := 0#32
  ![v1059.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x16384, .f32⟩
  | .hbm, ⟨2, _⟩ => ⟨S256x16384, .f32⟩
  | .hbm, ⟨3, _⟩ => ⟨S16384x256, .f32⟩
  | .hbm, ⟨4, _⟩ => ⟨S256x16384, .f32⟩
  | .hbm, ⟨5, _⟩ => ⟨S256x16384, .f32⟩
  | .hbm, ⟨6, _⟩ => ⟨S256x16384, .f32⟩
  | .hbm, ⟨7, _⟩ => ⟨S256x16384, .f32⟩
  | .hbm, ⟨8, _⟩ => ⟨S_, .f32⟩
  | .hbm, ⟨9, _⟩ => ⟨S256x16384, .f32⟩
  | .hbm, ⟨10, _⟩ => ⟨S256x16384, .f32⟩
  | .hbm, ⟨11, _⟩ => ⟨S256x16384, .f32⟩
  | .hbm, ⟨12, _⟩ => ⟨S256x16384, .f32⟩
  | .hbm, ⟨13, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.KernelIdeal.Loops.lean ====
/-
  The kernel body of one device, written as seven counted loops around the two stretches of loads and stores, and the
  theorem that the printed body is that program.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe
open Idealize.SL.Sem

variable {F : FTy → Type} [FloatOps F]

/-- The programs of one core. -/
abbrev P (F : FTy → Type) [FloatOps F] (α : Type) := Prog (TpuEff nD τ sig (Elt F) Λ₀ .tc) α

/-- `n` steps, the `i`-th being `f i`, one after the other. -/
def times : (n : ℕ) → (Fin n → P F PUnit) → P F PUnit
  | 0, _ => .ret ⟨⟩
  | n + 1, f => f 0 >>= fun _ => times n fun i => f i.succ

/-! ## The buffers and semaphores -/

abbrev xM : Memref sig .tc .vmem S256x256 .f32 := Memref.whole cc0_stg0_0
abbrev gM : Memref sig .tc .vmem S256x512 .f32 := Memref.whole cc0_stg1_0
abbrev uM : Memref sig .tc .vmem S256x512 .f32 := Memref.whole cc0_stg2_0
abbrev dM : Memref sig .tc .vmem S512x256 .f32 := Memref.whole cc0_stg3_0
abbrev oM : Memref sig .tc .vmem S256x256 .f32 := Memref.whole cc0_stg4_0
abbrev pM : Memref sig .tc .vmem S256x256 .f32 := Memref.whole cc0_scratch0
abbrev rM : Memref sig .tc .vmem S8x256 .f32 := Memref.whole cc0_scratch1
abbrev bM : Memref sig .tc .vmem S32x8x256 .f32 := Memref.whole cc0_scratch2

/-- The device `w` places after `d` on the ring, as the kernel computes its number. -/
def pdev (d : Dev nD) (w : BitVec 32) : ℕ :=
  (Scalar.addi 0#32 (Scalar.muli (Scalar.remsi (Scalar.addi (Scalar.remsi (Scalar.divsi (Dev.word d) 1#32) 32#32) w) 32#32) 1#32)).toNat

/-- In closed form: `k + 1` places after `d`. -/
theorem pdev_eq : ∀ (d : Dev nD) (k : Fin 31), pdev d (BitVec.ofNat 32 (1 + k.val)) = (d.val + k.val + 1) % 32 := by
  decide +kernel
theorem pdev_lt (d : Dev nD) (k : Fin 31) : pdev d (BitVec.ofNat 32 (1 + k.val)) < nD := by
  rw [pdev_eq]; exact Nat.mod_lt _ (by decide)

/-- The device `k + 1` places after `d`, as the kernel names it. -/
abbrev toDev (d : Dev nD) (k : Fin 31) : Dev nD := ⟨pdev d (BitVec.ofNat 32 (1 + k.val)), pdev_lt d k⟩

theorem slot_inb (k : Fin 31) : ∀ a, (![1 + k.val, 0, 0] : Fin 3 → Nat) a + S1x8x256.size a ≤ S32x8x256.size a := by
  have := k.isLt
  intro a; fin_cases a
  · show 1 + k.val + 1 ≤ 32; omega
  · exact le_refl 8
  · exact le_refl 256
theorem sem_inb (k : Fin 31) : ∀ a, (![1 + k.val] : Fin 1 → Nat) a + S1.size a ≤ S32.size a := by
  have := k.isLt
  intro a; fin_cases a
  show 1 + k.val + 1 ≤ 32; omega

/-- Semaphore `k + 1` of an array of 32. -/
abbrev semAt (A : DmaSems sig S32) (k : Fin 31) : DmaSem sig :=
  ((A.slice (Rect.unit (s := S32) ![1 + k.val] S1.size (sem_inb k))).squeeze S_ squeezes_S1_S_).sem
/-- Slot `k + 1` of the landing buffer. -/
abbrev slotM (k : Fin 31) : Memref sig .tc .vmem S8x256 .f32 :=
  (bM.slice (Rect.unit (s := S32x8x256) ![1 + k.val, 0, 0] S1x8x256.size (slot_inb k)) (fun _ => rfl)).squeeze S8x256 squeezes_S1x8x256_S8x256
/-- The rows of the partial product that belong to the device `k + 1` places after `d`. -/
abbrev partM (d : Dev nD) (k : Fin 31) : Memref sig .tc .vmem S8x256 .f32 :=
  pM.slice (Rect.unit (s := S256x256) (k0_off1 d (BitVec.ofNat 32 (1 + k.val))) S8x256.size (k0_off1_inb d k)) (fun _ => rfl)
/-- The result's rows of device `d`. -/
abbrev ownM (d : Dev nD) : Memref sig .tc .vmem S8x256 .f32 :=
  oM.slice (Rect.unit (s := S256x256) (k0_off3 d) S8x256.size (k0_off3_inb d)) (fun _ => rfl)
/-- The result's rows of the device `k + 1` places before `d`. -/
abbrev prevM (d : Dev nD) (k : Fin 31) : Memref sig .tc .vmem S8x256 .f32 :=
  oM.slice (Rect.unit (s := S256x256) (k0_off4 d (BitVec.ofNat 32 (1 + k.val))) S8x256.size (k0_off4_inb d k)) (fun _ => rfl)

/-! ## The steps -/

/-- Signal the barrier of the device `k + 1` places after. -/
def signal (d : Dev nD) (k : Fin 31) : P F PUnit :=
  semSignalWord (toDev d k) (SemArray.scalar (sig.barrier 0 rfl) : Sems sig S_).sem 1#32
/-- Send that device its rows of the partial product. -/
def scatter (d : Dev nD) (k : Fin 31) : P F PUnit :=
  Prog.lift (.enqueueDma (partM d k) (.remote (Dev.tc (toDev d k)) (slotM k) (.dma (semAt cc0_scratch3 k))) (.dma (semAt cc0_scratch4 k))
    (View.wordExact_bits rfl) ((View.wordExact_bits rfl).reshape _ _) ⟨⟨rfl, Or.inl rfl⟩, trivial⟩)
/-- Wait for slot `k + 1` to arrive. -/
def arrive (d : Dev nD) (k : Fin 31) : P F PUnit :=
  Prog.lift (.waitDma2 (semAt cc0_scratch4 k) (partM d k) (slotM k) (View.wordExact_bits rfl) ((View.wordExact_bits rfl).reshape _ _))
/-- Send the device `k + 1` places after the summed rows. -/
def gather (d : Dev nD) (k : Fin 31) : P F PUnit :=
  Prog.lift (.enqueueDma rM (.remote (Dev.tc (toDev d k)) (ownM d) (.dma (semAt cc0_scratch5 k))) (.dma (semAt cc0_scratch6 k))
    (Memref.isWhole_whole cc0_scratch1).wordExact (View.wordExact_bits rfl) ⟨⟨rfl, Or.inl rfl⟩, trivial⟩)
/-- Wait for the summed rows of the device `k + 1` places before. -/
def collect (d : Dev nD) (k : Fin 31) : P F PUnit :=
  Prog.lift (.waitDma2 (semAt cc0_scratch6 k) rM (prevM d k) (Memref.isWhole_whole cc0_scratch1).wordExact (View.wordExact_bits rfl))
/-- Wait for the `k`-th send of the scatter to have left. -/
def left1 (d : Dev nD) (k : Fin 31) : P F PUnit :=
  Prog.lift (.waitDma2 (semAt cc0_scratch3 k) (slotM k) (partM d k) ((View.wordExact_bits rfl).reshape _ _) (View.wordExact_bits rfl))
/-- Wait for the `k`-th send of the gather to have left. -/
def left2 (d : Dev nD) (k : Fin 31) : P F PUnit :=
  Prog.lift (.waitDma2 (semAt cc0_scratch5 k) (ownM d) rM (View.wordExact_bits rfl) (Memref.isWhole_whole cc0_scratch1).wordExact)

/-- The four loads, the partial product stored, and the wait on the barrier. -/
def product (d : Dev nD) : P F PUnit := do
  let v128 : Vec F S256x256 .f32 ← Prog.lift (.load xM (Rect.unit (s := S256x256) ![0, 0] S256x256.size inb_S256x256_S256x256_0_0).toLoadRect (View.loadsAt_vmem h_S256x256))
  let v130 : Vec F S256x512 .f32 ← Prog.lift (.load gM (Rect.unit (s := S256x512) ![0, 0] S256x512.size inb_S256x512_S256x512_0_0).toLoadRect (View.loadsAt_vmem h_S256x512))
  let v133 : Vec F S256x512 .f32 ← Prog.lift (.load uM (Rect.unit (s := S256x512) ![0, 0] S256x512.size inb_S256x512_S256x512_0_0).toLoadRect (View.loadsAt_vmem h_S256x512))
  let v139 : Vec F S512x256 .f32 ← Prog.lift (.load dM (Rect.unit (s := S512x256) ![0, 0] S512x256.size inb_S512x256_S512x256_0_0).toLoadRect (View.loadsAt_vmem h_S512x256))
  let v142 : Vec F S256x256 .f32 ← Prog.lift (.load pM (Rect.unit (s := S256x256) ![0, 0] S256x256.size inb_S256x256_S256x256_0_0).toLoadRect (View.loadsAt_vmem h_S256x256))
  Prog.lift (.store pM (Rect.unit (s := S256x256) ![0, 0] S256x256.size inb_S256x256_S256x256_0_0) (k0_pay1 v128 v130 v133 v139) Finset.univ (View.stores_vmem_bits_univ h_S256x256 rfl) (.inl rfl))
  semWaitWord (SemArray.scalar (sig.barrier 0 rfl) : Sems sig S_).sem 31#32

/-- The device's own rows and the 31 slots summed and stored, in the scratch and in the result. -/
def reduce (d : Dev nD) : P F PUnit := do
  let v736 : Vec F S8x256 .f32 ← Prog.lift (.load pM (Rect.unit (s := S256x256) (k0_off2 d) S8x256.size (k0_off2_inb d)).toLoadRect (View.loadsAt_vmem h_S8x256))
  let v737 : Vec F S31x8x256 .f32 ← Prog.lift (.load bM (Rect.unit (s := S32x8x256) ![1, 0, 0] S31x8x256.size inb_S32x8x256_S31x8x256_1_0_0).toLoadRect (View.loadsAt_vmem h_S31x8x256))
  let v740 : Vec F S8x256 .f32 ← Prog.lift (.load rM (Rect.unit (s := S8x256) ![0, 0] S8x256.size inb_S8x256_S8x256_0_0).toLoadRect (View.loadsAt_vmem h_S8x256))
  Prog.lift (.store rM (Rect.unit (s := S8x256) ![0, 0] S8x256.size inb_S8x256_S8x256_0_0) (k0_pay3 v736 v737) Finset.univ (View.stores_vmem_bits_univ h_S8x256 rfl) (.inl rfl))
  let v745 : Vec F S8x256 .f32 ← Prog.lift (.load oM (Rect.unit (s := S256x256) (k0_off2 d) S8x256.size (k0_off2_inb d)).toLoadRect (View.loadsAt_vmem h_S8x256))
  Prog.lift (.store oM (Rect.unit (s := S256x256) (k0_off2 d) S8x256.size (k0_off2_inb d)) (k0_pay2 v736 v737) Finset.univ (View.stores_vmem_bits_univ h_S8x256 rfl) (.inl rfl))

/-- What the device `d` does once it knows its number. -/
def deviceProg (d : Dev nD) : P F PUnit := do
  times 31 (signal d)
  product d
  times 31 (scatter d)
  times 31 (arrive d)
  reduce d
  times 31 (gather d)
  times 31 (collect d)
  times 31 (left1 d)
  times 31 (left2 d)

/-- The body as loops. -/
def loops : P F PUnit := do
  let d : Dev nD ← Prog.lift .deviceId
  deviceProg d

set_option maxRecDepth 1000000 in
set_option maxHeartbeats 4000000 in
/-- The printed body is that program. -/
theorem body_eq_loops : cc0_body (F := F) xM (Memref.isWhole_whole _) gM (Memref.isWhole_whole _) uM (Memref.isWhole_whole _) dM (Memref.isWhole_whole _)
    oM (Memref.isWhole_whole _) pM (Memref.isWhole_whole _) rM (Memref.isWhole_whole _) bM (Memref.isWhole_whole _)
    cc0_scratch3 cc0_scratch4 cc0_scratch5 cc0_scratch6 = loops := by
  rw [cc0_body_eq_skeleton]
  exact rfl

end Cert.KernelIdeal.Run

end
-- ==== Proof.KernelIdeal.Ring.lean ====
/-
  The ring of 32 devices, the rows and slots the transfers name, and what each buffer holds: the partial product of a
  device, the rows that land in its slots, the summed rows and the whole result.
-/
module

public import proofs.«01_k».proof.Proof.KernelIdeal.Loops
public import Idealize.ShloMosaic.Lib.ValueLayout
public import Idealize.ShloMosaic.Lib.Pipeline.ValueKit.Geometry

@[expose] public section

noncomputable section

namespace Cert.KernelIdeal.Run

open Cert.KernelIdeal Cert.KernelIdeal.Gen
open Idealize.ShloMosaic Idealize.ShloMosaic.TcCoe
open Idealize.ShloMosaic.ValueIdx
open Idealize.ShloMosaic.ValueKit
open Idealize.SL.Sem

variable {F : FTy → Type} [FloatOps F]

/-! ## The ring -/

set_option backward.proofsInPublic true in
/-- The device `k + 1` places after `c`. -/
def tgt (c : Dev nD) (k : Fin 31) : Dev nD := ⟨(c.val + k.val + 1) % 32, Nat.mod_lt _ (by decide)⟩
set_option backward.proofsInPublic true in
/-- The device `k + 1` places before `c`. -/
def src (c : Dev nD) (k : Fin 31) : Dev nD := ⟨(c.val + 31 - k.val) % 32, Nat.mod_lt _ (by decide)⟩
set_option backward.proofsInPublic true in
/-- The step that leads back: `k + 1` places after are `31 - k` places before. -/
def rev (k : Fin 31) : Fin 31 := ⟨30 - k.val, Nat.lt_of_le_of_lt (Nat.sub_le 30 k.val) (by decide)⟩
set_option backward.proofsInPublic true in
/-- The device `j` places before `c`, itself at `0`. -/
def before (c : Dev nD) (j : Fin 32) : Dev nD := ⟨(c.val + 32 - j.val) % 32, Nat.mod_lt _ (by decide)⟩

theorem tgt_src : ∀ (c : Dev nD) (k : Fin 31), tgt (src c k) k = c := by decide +kernel
theorem src_tgt : ∀ (c : Dev nD) (k : Fin 31), src (tgt c k) k = c := by decide +kernel
theorem tgt_rev : ∀ (c : Dev nD) (k : Fin 31), tgt (tgt c k) (rev k) = c := by decide +kernel
theorem rev_rev : ∀ k : Fin 31, rev (rev k) = k := by decide +kernel
theorem src_eq_tgt : ∀ (c : Dev nD) (k : Fin 31), src c k = tgt c (rev k) := by decide +kernel
theorem before_succ : ∀ (c : Dev nD) (k : Fin 31), before c k.succ = src c k := by decide +kernel
theorem tgt_ne : ∀ (c : Dev nD) (k : Fin 31), tgt c k ≠ c := by decide +kernel
theorem tgt_inj (c : Dev nD) : Function.Injective (tgt c) := by revert c; decide +kernel
theorem erase_eq : ∀ c : Dev nD, (Finset.univ : Finset (Dev nD)).erase c = Finset.univ.image (tgt c) := by decide +kernel
theorem toDev_eq (d : Dev nD) (k : Fin 31) : toDev d k = tgt d k := Fin.ext (pdev_eq d k)

/-! ## Rows and slots -/

/-- The elements of the rows of device `e` in a 256 × 256 array. -/
def rows (e : Dev nD) : Finset S256x256.Idx := Finset.univ.filter fun i => (i 0).val / 8 = e.val
/-- The elements of slot `j` of the landing buffer. -/
def slot (j : Fin 32) : Finset S32x8x256.Idx := Finset.univ.filter fun i => (i 0).val = j.val

theorem mem_rows {e : Dev nD} {i : S256x256.Idx} : i ∈ rows e ↔ (i 0).val / 8 = e.val := by
  unfold rows; rw [Finset.mem_filter]; exact and_iff_right (Finset.mem_univ i)
theorem mem_slot {j : Fin 32} {i : S32x8x256.Idx} : i ∈ slot j ↔ (i 0).val = j.val := by
  unfold slot; rw [Finset.mem_filter]; exact and_iff_right (Finset.mem_univ i)

theorem rows_disjoint {e e' : Dev nD} (h : e ≠ e') : Disjoint (rows e) (rows e') :=
  Finset.disjoint_left.mpr fun i hi hi' => h (Fin.ext ((mem_rows.mp hi).symm.trans (mem_rows.mp hi')))
theorem slot_disjoint {j j' : Fin 32} (h : j ≠ j') : Disjoint (slot j) (slot j') :=
  Finset.disjoint_left.mpr fun i hi hi' => h (Fin.ext ((mem_slot.mp hi).symm.trans (mem_slot.mp hi')))
theorem rows_cover : (Finset.univ : Finset (Dev nD)).biUnion rows = Finset.univ := by
  refine Finset.eq_univ_of_forall fun i => Finset.mem_biUnion.mpr ?_
  have h : (i 0).val < 256 := (i 0).isLt
  exact ⟨⟨(i 0).val / 8, by show _ < 32; omega⟩, Finset.mem_univ _, mem_rows.mpr rfl⟩
theorem slot_cover : (Finset.univ : Finset (Fin 32)).biUnion slot = Finset.univ := by
  refine Finset.eq_univ_of_forall fun i => Finset.mem_biUnion.mpr ?_
  have h : (i 0).val < 32 := (i 0).isLt
  exact ⟨⟨(i 0).val, h⟩, Finset.mem_univ _, mem_slot.mpr rfl⟩

/-- A rectangle of eight whole rows, from row `8 e`, holds the rows of device `e`. -/
theorem rect_rows (e : Dev nD) {off : Fin 2 → ℕ} (ho : off = ![8 * e.val, 0]) (inb) :
    (Rect.unit (s := S256x256) off S8x256.size inb).set = rows e := by
  subst ho
  ext i
  rw [Rect.mem_set_unit, mem_rows]
  have h1 : (i 1).val < 256 := (i 1).isLt
  constructor
  · intro h
    have h0 := h 0
    change 8 * e.val ≤ (i 0).val ∧ (i 0).val < 8 * e.val + 8 at h0
    omega
  · intro h a
    fin_cases a
    · show 8 * e.val ≤ (i 0).val ∧ (i 0).val < 8 * e.val + 8
      omega
    · show 0 ≤ (i 1).val ∧ (i 1).val < 0 + 256
      omega

theorem part_set (d : Dev nD) (k : Fin 31) : (partM d k).view.set = rows (tgt d k) :=
  (View.set_slice_whole cc0_scratch0 _).trans (rect_rows (tgt d k) (k0_off1_eq d k) _)
theorem own_set (d : Dev nD) : (ownM d).view.set = rows d :=
  (View.set_slice_whole cc0_stg4_0 _).trans (rect_rows d (k0_off3_eq d) _)
theorem slot_set (k : Fin 31) : (slotM k).view.set = slot k.succ := by
  refine ((View.set_reshape _ _).trans (View.set_slice_whole cc0_scratch2 _)).trans ?_
  ext i
  rw [Rect.mem_set_unit, mem_slot]
  have h1 : (i 1).val < 8 := (i 1).isLt
  have h2 : (i 2).val < 256 := (i 2).isLt
  constructor
  · intro h
    have h0 := h 0
    change 1 + k.val ≤ (i 0).val ∧ (i 0).val < 1 + k.val + 1 at h0
    show (i 0).val = k.val + 1
    omega
  · intro h a
    change (i 0).val = k.val + 1 at h
    fin_cases a
    · show 1 + k.val ≤ (i 0).val ∧ (i 0).val < 1 + k.val + 1
      omega
    · show 0 ≤ (i 1).val ∧ (i 1).val < 0 + 8
      omega
    · show 0 ≤ (i 2).val ∧ (i 2).val < 0 + 256
      omega

/-! ## Where an index of a transfer's block lies in its buffer -/

set_option backward.proofsInPublic true in
/-- Row `r` of the eight rows of device `e`. -/
def rowIn (e : Dev nD) (r : Fin 8) : Fin 256 := ⟨8 * e.val + r.val, by have h : e.val < 32 := e.isLt; have h' := r.isLt; omega⟩

theorem rect_emb (e : Dev nD) {off : Fin 2 → ℕ} (ho : off = ![8 * e.val, 0]) (inb) (x : S8x256.Idx) :
    (Rect.unit (s := S256x256) off S8x256.size inb).emb x = ix2 (rowIn e (x 0)) (x 1) := by
  subst ho
  funext a
  refine Fin.ext ((rect_emb_unit_val _ _ _ x a).trans ?_)
  fin_cases a
  · rfl
  · exact Nat.zero_add _

theorem part_emb (d : Dev nD) (k : Fin 31) (x : S8x256.Idx) : (partM d k).view.emb x = ix2 (rowIn (tgt d k) (x 0)) (x 1) :=
  rect_emb (tgt d k) (k0_off1_eq d k) _ x
theorem own_emb (d : Dev nD) (x : S8x256.Idx) : (ownM d).view.emb x = ix2 (rowIn d (x 0)) (x 1) :=
  rect_emb d (k0_off3_eq d) _ x
theorem slot_emb (k : Fin 31) (x : S8x256.Idx) : (slotM k).view.emb x = ix3 k.succ (x 0) (x 1) := by
  have hx : Shape.reshapeEquiv (s := S1x8x256) (s' := S8x256) squeezes_S1x8x256_S8x256.numel_eq x = ix3 (⟨0, Nat.one_pos⟩ : Fin 1) (x 0) (x 1) := by
    conv_lhs => rw [eq_ix2 x]
    exact reshapeEquiv_ix2_1ab _ (x 0) (x 1)
  show (Rect.unit (s := S32x8x256) ![1 + k.val, 0, 0] S1x8x256.size (slot_inb k)).emb (Shape.reshapeEquiv squeezes_S1x8x256_S8x256.numel_eq x) = _
  rw [hx]
  funext a
  refine Fin.ext ((rect_emb_unit_val _ _ _ _ a).trans ?_)
  fin_cases a
  · show 1 + k.val + 0 = k.val + 1
    omega
  · exact Nat.zero_add _
  · exact Nat.zero_add _

/-! ## The contents -/

variable (m : (ℓ : Loc nD τ sig) → Buf (Elt F) ℓ)

/-- Device `c`'s operand blocks, as staged. -/
def opX (c : Dev nD) : (cc0_stg0_0 : Ref sig .tc).ty.Contents (Elt F) := (win0_0.blk t0_0).view.read (Elt F) (m ((c : Thread nD τ).loc main_arg0))
def opG (c : Dev nD) : (cc0_stg1_0 : Ref sig .tc).ty.Contents (Elt F) := (win0_1.blk t0_0).view.read (Elt F) (m ((c : Thread nD τ).loc main_arg1))
def opU (c : Dev nD) : (cc0_stg2_0 : Ref sig .tc).ty.Contents (Elt F) := (win0_2.blk t0_0).view.read (Elt F) (m ((c : Thread nD τ).loc main_arg2))
def opD (c : Dev nD) : (cc0_stg3_0 : Ref sig .tc).ty.Contents (Elt F) := (win0_3.blk t0_0).view.read (Elt F) (m ((c : Thread nD τ).loc main_arg3))

/-- Device `c`'s partial product. -/
def part (c : Dev nD) : (cc0_scratch0 : Ref sig .tc).ty.Contents (Elt F) := k0_pay1 (opX m c) (opG m c) (opU m c) (opD m c)

/-- What device `c`'s landing buffer holds: in slot `j` the rows of `c` of the partial product `j` places before. -/
def landed (c : Dev nD) : (cc0_scratch2 : Ref sig .tc).ty.Contents (Elt F) :=
  fun i => part m (before c (i 0)) (ix2 (rowIn c (i 1)) (i 2))

/-- The rows of `c` of its own partial product. -/
def ownRows (c : Dev nD) : Vec F S8x256 .f32 := fun x => part m c (ix2 (rowIn c (x 0)) (x 1))
/-- Slots 1 to 31 of its landing buffer. -/
def slots (c : Dev nD) : Vec F S31x8x256 .f32 := fun y => landed m c (ix3 (Fin.succ (y 0)) (y 1) (y 2))
/-- The rows of `c`, summed over the devices. -/
def red (c : Dev nD) : (cc0_scratch1 : Ref sig .tc).ty.Contents (Elt F) := k0_pay2 (ownRows m c) (slots m c)

set_option backward.proofsInPublic true in
/-- The device that sums row `r`. -/
def ownerOf (r : Fin 256) : Dev nD := ⟨r.val / 8, by show _ < 32; have := r.isLt; omega⟩
set_option backward.proofsInPublic true in
/-- Its place among that device's rows. -/
def placeOf (r : Fin 256) : Fin 8 := ⟨r.val % 8, Nat.mod_lt _ (by decide)⟩

/-- The result, the same on every device: each row as its device summed it. -/
def outAll : (cc0_stg4_0 : Ref sig .tc).ty.Contents (Elt F) := fun i => red m (ownerOf (i 0)) (ix2 (placeOf (i 0)) (i 1))

theorem ownerOf_rowIn (e : Dev nD) (r : Fin 8) : ownerOf (rowIn e r) = e := Fin.ext (by
  show (8 * e.val + r.val) / 8 = e.val
  have := r.isLt; omega)
theorem placeOf_rowIn (e : Dev nD) (r : Fin 8) : placeOf (rowIn e r) = r := Fin.ext (by
  show (8 * e.val + r.val) % 8 = r.val
  have := r.isLt; omega)

/-- The slot `k + 1` of the device `k + 1` places after `c` holds that device's rows of `c`'s partial product. -/
theorem landed_at (c : Dev nD) (k : Fin 31) (x : S8x256.Idx) :
    landed m (tgt c k) (ix3 k.succ (x 0) (x 1)) = part m c (ix2 (rowIn (tgt c k) (x 0)) (x 1)) := by
  show part m (before (tgt c k) k.succ) (ix2 (rowIn (tgt c k) (x 0)) (x 1)) = _
  rw [before_succ, src_tgt]
/-- The result's rows of `d` are the rows `d` summed. -/
theorem outAll_rc (d : Dev nD) (r : Fin 8) (j : Fin 256) : outAll m (ix2 (rowIn d r) j) = red m d (ix2 r j) := by
  show red m (ownerOf (rowIn d r)) (ix2 (placeOf (rowIn d r)) j) = _
  rw [ownerOf_rowIn, placeOf_rowIn]
theorem outAll_at (d : Dev nD) (x : S8x256.Idx) : outAll m (ix2 (rowIn d (x 0)) (x 1)) = red m d x :=
  (outAll_rc m d (x 0) (x 1)).trans (congrArg (red m d) (eq_ix2 x).symm)

/-- What a scatter lands is what the slot is said to hold. -/
theorem scatter_lands (c : Dev nD) (k : Fin 31) (fd : (cc0_scratch2 : Ref sig .tc).ty.Contents (Elt F)) (i) (hi : i ∈ (slotM k).view.set) :
    (slotM k).view.write (Elt F) fd ((partM c k).view.read (Elt F) (part m c)) Finset.univ i = landed m (tgt c k) i := by
  obtain ⟨x, -, rfl⟩ := Finset.mem_map.mp hi
  rw [View.write_emb_of_mem _ _ (Finset.mem_univ x)]
  exact (congrArg (part m c) (part_emb c k x)).trans ((landed_at m c k x).symm.trans (congrArg (landed m (tgt c k)) (slot_emb k x).symm))

/-- Rows of device `d` written with its summed rows are the result's. -/
theorem rows_lands (d : Dev nD) {off : Fin 2 → ℕ} (ho : off = ![8 * d.val, 0]) (inb) (fd : (cc0_stg4_0 : Ref sig .tc).ty.Contents (Elt F)) (i)
    (hi : i ∈ rows d) :
    ((View.whole cc0_stg4_0).slice (Rect.unit (s := S256x256) off S8x256.size inb)).write (Elt F) fd (red m d) Finset.univ i = outAll m i := by
  have hi' : i ∈ ((View.whole cc0_stg4_0).slice (Rect.unit (s := S256x256) off S8x256.size inb)).set := by
    rw [View.set_slice_whole, rect_rows d ho]; exact hi
  obtain ⟨x, -, rfl⟩ := Finset.mem_map.mp hi'
  rw [View.write_emb_of_mem _ _ (Finset.mem_univ x)]
  exact (outAll_at m d x).symm.trans (congrArg (outAll m) (rect_emb d ho inb x).symm)

end Cert.KernelIdeal.Run

end
-- ==== Proof.KernelIdeal.Protocol.lean ====
/-
  The protocol of the kernel: the cells its semaphores are, what each duty of a cell hands to the cell's owner, what a
  device owes, and the order in which cells are waited for.
-/
module

public import proofs.«01_k».proof.Proof.KernelIdeal.Ring
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging's copy and the ring's, whose duties are numbered by `Fin 31` -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The four arrays of semaphores: scatter sent, scatter landed, gather sent, gather landed. -/
def arr : Fin 4 → DmaSems sig S32 := fun | 0 => cc0_scratch3 | 1 => cc0_scratch4 | 2 => cc0_scratch5 | 3 => cc0_scratch6

theorem semAt_val : ∀ (a : Fin 4) (k : Fin 31), (semAt (arr a) k).val = 6 + 32 * a.val + k.val := by decide +kernel
theorem semAt_inj {a a' : Fin 4} {k k' : Fin 31} (h : semAt (arr a) k = semAt (arr a') k') : a = a' ∧ k = k' := by
  have h1 := congrArg Fin.val h
  rw [semAt_val, semAt_val] at h1
  have ha := a.isLt; have ha' := a'.isLt; have hk := k.isLt; have hk' := k'.isLt
  exact ⟨Fin.ext (by omega), Fin.ext (by omega)⟩

/-- The barrier semaphore. -/
abbrev barS : Sem sig := (SemArray.scalar (sig.barrier 0 rfl) : Sems sig S_).sem

/-- A device's cells: the barrier, and semaphores 1 to 31 of the four arrays. -/
abbrev CI : Type := Unit ⊕ (Fin 4 × Fin 31)
def csem : CI → SemLoc sig := fun | .inl _ => .reg barS | .inr ak => .dma (semAt (arr ak.1) ak.2)
theorem csem_dma (a : Fin 4) (k : Fin 31) : csem (.inr (a, k)) = .dma (semAt (arr a) k) := by simp only [csem]
theorem csem_inj : Function.Injective csem := by
  rintro (⟨⟩ | ⟨a, k⟩) (⟨⟩ | ⟨a', k'⟩) h
  · rfl
  · cases h
  · cases h
  · obtain ⟨rfl, rfl⟩ := semAt_inj (SemLoc.dma.inj h); rfl

def kcell (ci : Dev nD × CI) : GSem nD τ sig := ((ci.1 : Thread nD τ), csem ci.2)
theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

abbrev barCell (c : Dev nD) : GSem nD τ sig := kcell (c, .inl ())
abbrev dmaCell (c : Dev nD) (a : Fin 4) (k : Fin 31) : GSem nD τ sig := kcell (c, .inr (a, k))

open Classical in
/-- Which of the cells a semaphore is, if any. -/
def decode (s : SemLoc sig) : Option CI := if h : ∃ i, csem i = s then some h.choose else none
theorem decode_csem (i : CI) : decode (csem i) = some i := by
  have h : ∃ j, csem j = csem i := ⟨i, rfl⟩
  unfold decode
  rw [dif_pos h]
  exact congrArg some (csem_inj h.choose_spec)
theorem decode_none {s : SemLoc sig} (h : ∀ i, csem i ≠ s) : decode s = none := by
  unfold decode
  exact dif_neg fun ⟨i, hi⟩ => h i hi

/-- The credit of one transfer: a block of 8 rows. -/
def N : ℕ := (rM : Memref sig .tc .vmem S8x256 .f32).view.dmaCredit
theorem N_pos : 0 < N := View.dmaCredit_pos _ (by decide)
theorem amount_slot (k : Fin 31) (s : DmaSem sig) : (slotM k).view.amount (.dma s) = N := rfl
theorem amount_own (d : Dev nD) (s : DmaSem sig) : (ownM d).view.amount (.dma s) = N := rfl
theorem credit_slot (k : Fin 31) : (slotM k).view.dmaCredit = N := rfl
theorem credit_part (d : Dev nD) (k : Fin 31) : (partM d k).view.dmaCredit = N := rfl
theorem credit_prev (d : Dev nD) (k : Fin 31) : (prevM d k).view.dmaCredit = N := rfl
theorem credit_red : (rM : Memref sig .tc .vmem S8x256 .f32).view.dmaCredit = N := rfl
attribute [irreducible] N

/-! ## What a device holds of its buffers -/

/-- Slot `k + 1` of device `c`. -/
def slotPts (c : Dev nD) (k : Fin 31) (f : Buf (Elt F) ((slotM k).view.loc (c : Thread nD τ))) : sProp 𝕄 :=
  (slotM k).view.loc (c : Thread nD τ) ↦[(slotM k).view.set]{fullShare} f
/-- The rows of device `e` of the result on device `c`. -/
def outPts (c e : Dev nD) (f : Buf (Elt F) ((ownM e).view.loc (c : Thread nD τ))) : sProp 𝕄 :=
  (ownM e).view.loc (c : Thread nD τ) ↦[(ownM e).view.set]{fullShare} f
/-- The rows of device `c`'s partial product that go to the device `k + 1` places after. -/
def partPts (c : Dev nD) (k : Fin 31) : sProp 𝕄 :=
  (partM c k).view.loc (c : Thread nD τ) ↦[(partM c k).view.set]{fullShare} part m c
/-- The part of the scratch of summed rows the `k`-th send of the gather reads with. -/
def leafOf (k : Fin 32) : PosShare TreeShare := ShareLeaves.leaf 5 fullShare k
def redPts (c : Dev nD) (k : Fin 32) : sProp 𝕄 :=
  (rM : Memref sig .tc .vmem S8x256 .f32).view.loc (c : Thread nD τ) ↦[(rM : Memref sig .tc .vmem S8x256 .f32).view.set]{leafOf k} red m c

instance slotPts_storable (c : Dev nD) (k : Fin 31) (f) : BI.Storable (upEmb : UEmb _ 𝕄) (slotPts (F := F) c k f) := by unfold slotPts; infer_instance
instance outPts_storable (c e : Dev nD) (f) : BI.Storable (upEmb : UEmb _ 𝕄) (outPts (F := F) c e f) := by unfold outPts; infer_instance
instance partPts_storable (c : Dev nD) (k : Fin 31) : BI.Storable (upEmb : UEmb _ 𝕄) (partPts (F := F) m c k) := by unfold partPts; infer_instance
instance redPts_storable (c : Dev nD) (k : Fin 32) : BI.Storable (upEmb : UEmb _ 𝕄) (redPts (F := F) m c k) := by unfold redPts; infer_instance

/-! ## The schedule -/

/-- What the signal of the device `k + 1` places after hands `c`: that device's slot `k + 1` and `c`'s rows of that
    device's result. -/
def barPay (c : Dev nD) (k : Fin 31) : sProp 𝕄 := iprop((∃ f, slotPts (tgt c k) k f) ∗ ∃ f, outPts (tgt c k) c f)
/-- What a transfer hands: the rows sent come back; a slot arrives with the sender's rows; the share of the summed rows
    comes back; the sender's rows of the result arrive. -/
def dmaPay (c : Dev nD) (a : Fin 4) (k : Fin 31) : sProp 𝕄 := match a with
  | 0 => partPts m c k
  | 1 => slotPts c k (landed m c)
  | 2 => redPts m c k.succ
  | 3 => outPts c (src c k) (outAll m)

instance barPay_storable (c : Dev nD) (k : Fin 31) : BI.Storable (upEmb : UEmb _ 𝕄) (barPay (F := F) c k) := by unfold barPay; infer_instance
instance dmaPay_storable (c : Dev nD) (a : Fin 4) (k : Fin 31) : BI.Storable (upEmb : UEmb _ 𝕄) (dmaPay (F := F) m c a k) := by
  unfold dmaPay; split <;> infer_instance

/-- The duties of a cell: the barrier's are one of each other device, a transfer's is one. -/
def dutiesOf : Option CI → Finset (Fin 31) := fun | some (.inl _) => Finset.univ | some (.inr _) => {0} | none => ∅
def amountOf : Option CI → ℕ := fun | some (.inl _) => 1 | some (.inr _) => N | none => 1
def payOf (c : Dev nD) (i : Option CI) (d : Fin 31) : sProp 𝕄 := match i with
  | some (.inl _) => barPay c d
  | some (.inr ak) => dmaPay m c ak.1 ak.2
  | none => iprop(emp)

/-- One round of duties on every cell. -/
def sched : Rounds.Schedule (GSem nD τ sig) (Fin 31) 𝕄 where
  duties g r := if r = 0 ∧ g.1.2 = .tc then dutiesOf (decode g.2) else ∅
  unitless _ := False
  amount g _ _ := amountOf (decode g.2)
  payload g _ d := payOf m g.1.1 (decode g.2) d
  amount_pos g _ _ _ := by
    rcases decode g.2 with _ | _ | _
    · exact Nat.one_pos
    · exact Nat.one_pos
    · exact N_pos

instance sched_payload_storable (g : GSem nD τ sig) (r : ℕ) (d : Fin 31) :
    BI.Storable (upEmb : UEmb _ 𝕄) ((sched (F := F) m).payload g r d) := by
  show BI.Storable upEmb (payOf m g.1.1 (decode g.2) d)
  unfold payOf
  split <;> infer_instance

theorem duties_at (c : Dev nD) (i : CI) : (sched m).duties (kcell (c, i)) 0 = dutiesOf (some i) := by
  dsimp only [sched]
  rw [if_pos ⟨rfl, rfl⟩]
  exact congrArg dutiesOf (decode_csem i)
theorem duties_later (g : GSem nD τ sig) : ∀ r, 1 ≤ r → (sched m).duties g r = ∅ :=
  fun r hr => if_neg fun h => by omega
theorem amount_at (c : Dev nD) (i : CI) (r : ℕ) (d : Fin 31) : (sched m).amount (kcell (c, i)) r d = amountOf (some i) := by
  show amountOf (decode (csem i)) = _
  rw [decode_csem]
theorem payload_at (c : Dev nD) (i : CI) (r : ℕ) (d : Fin 31) : (sched m).payload (kcell (c, i)) r d = payOf m c (some i) d := by
  show payOf m c (decode (csem i)) d = _
  rw [decode_csem]

theorem expect_bar (c : Dev nD) : (sched m).expect (barCell c) 0 = 31 := by
  unfold Schedule.expect Schedule.amountOf
  rw [duties_at, Finset.sum_congr rfl fun d _ => amount_at m c _ 0 d]
  show ∑ _d : Fin 31, 1 = 31
  rw [Finset.sum_const, Finset.card_univ, Fintype.card_fin, smul_eq_mul]
theorem expect_dma (c : Dev nD) (a : Fin 4) (k : Fin 31) : (sched m).expect (dmaCell c a k) 0 = N := by
  unfold Schedule.expect Schedule.amountOf
  rw [duties_at]
  show ∑ d ∈ ({0} : Finset (Fin 31)), _ = N
  rw [Finset.sum_singleton, amount_at]
  rfl

theorem rest_bar (c : Dev nD) :
    bigSep ((sched m).duties (barCell c) 0 \ ∅) (fun d => (sched m).payload (barCell c) 0 d) = bigSep Finset.univ (barPay (F := F) c) := by
  rw [Finset.sdiff_empty, duties_at]
  exact bigSep_congr fun d _ => payload_at m c _ 0 d
theorem rest_dma (c : Dev nD) (a : Fin 4) (k : Fin 31) :
    bigSep ((sched m).duties (dmaCell c a k) 0 \ ∅) (fun d => (sched m).payload (dmaCell c a k) 0 d) = dmaPay m c a k := by
  rw [Finset.sdiff_empty, duties_at]
  show bigSep ({0} : Finset (Fin 31)) _ = _
  rw [bigSep_singleton, payload_at]
  rfl

/-! ## What is still to do and what is done, of 31 steps -/

/-- The steps from the `n`-th on. -/
def from' (n : ℕ) : Finset (Fin 31) := Finset.univ.filter fun k => n ≤ k.val
/-- The steps before the `n`-th. -/
def below (n : ℕ) : Finset (Fin 31) := Finset.univ.filter fun k => k.val < n

theorem from_zero : from' 0 = Finset.univ := by decide
theorem from_end : from' 31 = ∅ := by decide
theorem below_zero : below 0 = ∅ := by decide
theorem below_end : below 31 = Finset.univ := by decide
theorem from_step : ∀ k : Fin 31, k ∉ from' (k.val + 1) ∧ from' k.val = insert k (from' (k.val + 1)) := by decide +kernel
theorem below_step : ∀ k : Fin 31, k ∉ below k.val ∧ below (k.val + 1) = insert k (below k.val) := by decide +kernel

theorem bigSep_from (k : Fin 31) (Φ : Fin 31 → sProp 𝕄) : bigSep (from' k.val) Φ = iprop(Φ k ∗ bigSep (from' (k.val + 1)) Φ) := by
  rw [(from_step k).2, bigSep_insert (from_step k).1]; rfl
theorem bigSep_below (k : Fin 31) (Φ : Fin 31 → sProp 𝕄) : bigSep (below (k.val + 1)) Φ = iprop(Φ k ∗ bigSep (below k.val) Φ) := by
  rw [(below_step k).2, bigSep_insert (below_step k).1]; rfl

/-! ## What a device owes -/

/-- What device `d` owes, of `w` units each, to the cells `i k` of the devices `k + 1` places after, from step `n` on. -/
def owedTo (i : Fin 31 → CI) (w : ℕ) (d : Dev nD) (n : ℕ) : CellTallies nD τ sig Unit := ∑ k ∈ from' n, tallyAt (kcell (tgt d k, i k)) () w

theorem owedTo_step (i : Fin 31 → CI) (w : ℕ) (d : Dev nD) (k : Fin 31) :
    owedTo i w d k.val = owedTo i w d (k.val + 1) + tallyAt (kcell (tgt d k, i k)) () w := by
  unfold owedTo
  rw [(from_step k).2, Finset.sum_insert (from_step k).1, add_comm]
theorem owedTo_end (i : Fin 31 → CI) (w : ℕ) (d : Dev nD) : owedTo i w d 31 = 0 := by
  unfold owedTo
  rw [from_end, Finset.sum_empty]

theorem owedTo_apply (i : Fin 31 → CI) (w : ℕ) (d : Dev nD) (n : ℕ) (g : GSem nD τ sig) (u : Unit) :
    owedTo i w d n g u = ∑ k ∈ from' n, if g = kcell (tgt d k, i k) then w else 0 := by
  unfold owedTo
  rw [Finset.sum_apply, Finsupp.finset_sum_apply]
  refine Finset.sum_congr rfl fun k _ => ?_
  rw [tallyAt_apply]
  by_cases h : g = kcell (tgt d k, i k)
  · rw [if_pos ⟨h, rfl⟩, if_pos h]
  · rw [if_neg fun h' => h h'.1, if_neg h]

theorem owedTo_pos {i : Fin 31 → CI} {w : ℕ} {d : Dev nD} {n : ℕ} {g : GSem nD τ sig} {u : Unit} (h : 0 < owedTo i w d n g u) :
    ∃ k, g = kcell (tgt d k, i k) := by
  rw [owedTo_apply] at h
  by_contra hn
  rw [Finset.sum_eq_zero fun k _ => if_neg fun h' => hn ⟨k, h'⟩] at h
  exact Nat.lt_irrefl 0 h

/-- The barrier's cell, for every step. -/
def toBar : Fin 31 → CI := fun _ => .inl ()
/-- Semaphore `k + 1` of array `a`, for step `k`. -/
def toDma (a : Fin 4) : Fin 31 → CI := fun k => .inr (a, k)

/-- What a device owes before the gather, before the scatter, and at launch. -/
abbrev O₂ (d : Dev nD) : CellTallies nD τ sig Unit := owedTo (toDma 3) N d 0
abbrev O₁ (d : Dev nD) : CellTallies nD τ sig Unit := O₂ d + owedTo (toDma 1) N d 0
abbrev O₀ (d : Dev nD) : CellTallies nD τ sig Unit := O₁ d + owedTo toBar 1 d 0

/-! ## The levels -/

def L (g : GSem nD τ sig) : Finset Unit := if g.1.2 = .tc then {()} else ∅
/-- The barrier at 1, what the scatter lands at 2, what the gather lands at 3, everything else at 0. -/
def levelOf : Option CI → ℕ := fun | some (.inl _) => 1 | some (.inr ak) => (if ak.1 = 1 then 2 else if ak.1 = 3 then 3 else 0) | none => 0
def lv (g : GSem nD τ sig) (_ : Unit) : ℕ := levelOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (i : CI) (u : Unit) : lv (kcell (c, i)) u = levelOf (some i) := by
  show levelOf (decode (csem i)) = _
  rw [decode_csem]

theorem level_bar : levelOf (some (.inl ())) = 1 := rfl
theorem level_1 (k : Fin 31) : levelOf (some (.inr (1, k))) = 2 := rfl
theorem level_3 (k : Fin 31) : levelOf (some (.inr (3, k))) = 3 := rfl

/-- A wait for a cell at level at most `b` is allowed when every cell owed to is above `b`. -/
theorem mayWait_cut (b : ℕ) (c : Dev nD) (sm : SemLoc sig) (O : CellTallies nD τ sig Unit) (hb : levelOf (decode sm) ≤ b)
    (hO : ∀ g u, 0 < O g u → ∃ d i, g = kcell (d, i) ∧ b < levelOf (some i)) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, i, rfl, -⟩ := hO g u hg; exact (L_tc d (csem i)).symm ▸ Finset.mem_singleton_self _)
    (fun p hp => by rw [Finset.mem_singleton.mp hp]; exact hb)
    (fun g u hg => by obtain ⟨d, i, rfl, hi⟩ := hO g u hg; rw [lv_at]; exact hi)

theorem O₂_pos {d : Dev nD} {g : GSem nD τ sig} {u : Unit} (h : 0 < O₂ d g u) : ∃ k, g = kcell (tgt d k, .inr (3, k)) := owedTo_pos h
theorem O₁_pos {d : Dev nD} {g : GSem nD τ sig} {u : Unit} (h : 0 < O₁ d g u) :
    (∃ k, g = kcell (tgt d k, .inr (3, k))) ∨ ∃ k, g = kcell (tgt d k, .inr (1, k)) := by
  change 0 < O₂ d g u + owedTo (toDma 1) N d 0 g u at h
  rcases Nat.eq_zero_or_pos (O₂ d g u) with h0 | h0
  · rw [h0, Nat.zero_add] at h; exact .inr (owedTo_pos h)
  · exact .inl (O₂_pos h0)
theorem O₀_pos {d : Dev nD} {g : GSem nD τ sig} {u : Unit} (h : 0 < O₀ d g u) :
    ((∃ k, g = kcell (tgt d k, .inr (3, k))) ∨ ∃ k, g = kcell (tgt d k, .inr (1, k))) ∨ ∃ k, g = kcell (tgt d k, .inl ()) := by
  change 0 < O₁ d g u + owedTo toBar 1 d 0 g u at h
  rcases Nat.eq_zero_or_pos (O₁ d g u) with h0 | h0
  · rw [h0, Nat.zero_add] at h; exact .inr (owedTo_pos h)
  · exact .inl (O₁_pos h0)

/-- The levels of all cells, as a resource. -/
def levels : sProp 𝕄 := levAts L lv
instance levels_persistent : BI.Persistent (levels (F := F)) := by unfold levels; infer_instance
attribute [irreducible] levels

/-- The staging copies may be waited for while everything is owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  have hn : decode (.dma q) = none := decode_none fun i h => by
    rcases i with _ | ⟨a, k⟩
    · cases h
    · have h1 := congrArg Fin.val (SemLoc.dma.inj h)
      rw [semAt_val] at h1; omega
  rcases hO with rfl | rfl
  · refine mayWait_cut 0 c _ _ (by rw [hn]; exact le_refl 0) fun g u hg => ?_
    rcases O₀_pos hg with (⟨k, rfl⟩ | ⟨k, rfl⟩) | ⟨k, rfl⟩
    · exact ⟨_, _, rfl, by rw [level_3]; decide⟩
    · exact ⟨_, _, rfl, by rw [level_1]; decide⟩
    · exact ⟨_, _, rfl, by rw [level_bar]; decide⟩
  · rw [MayWait_zero]; iintro -; iempintro
/-- The barrier may be waited for while both rounds of transfers are owed, -/
theorem mayWait_bar (c : Dev nD) : levels (F := F) ⊢ MayWait (c : Thread nD τ) (.reg barS) () (O₁ c) := by
  unfold levels
  show (levAts L lv : sProp 𝕄) ⊢ MayWait (c : Thread nD τ) (csem (.inl ())) () (O₁ c)
  refine mayWait_cut 1 c _ _ (by rw [decode_csem]; exact le_refl 1) fun g u hg => ?_
  rcases O₁_pos hg with ⟨k, rfl⟩ | ⟨k, rfl⟩
  · exact ⟨_, _, rfl, by rw [level_3]; decide⟩
  · exact ⟨_, _, rfl, by rw [level_1]; decide⟩
/-- the scatter's landings while the gather is owed, -/
theorem mayWait_recv (c : Dev nD) (k : Fin 31) : levels (F := F) ⊢ MayWait (c : Thread nD τ) (.dma (semAt (arr 1) k)) () (O₂ c) := by
  unfold levels
  rw [← csem_dma]
  refine mayWait_cut 2 c _ _ (by rw [decode_csem]; exact le_refl 2) fun g u hg => ?_
  obtain ⟨k, rfl⟩ := O₂_pos hg
  exact ⟨_, _, rfl, by rw [level_3]; decide⟩
/-- and anything while nothing is owed. -/
theorem mayWait_none (c : Dev nD) (sm : SemLoc sig) : levels (F := F) ⊢ MayWait (c : Thread nD τ) sm () 0 := by
  rw [MayWait_zero]; iintro -; iempintro

end Cert.KernelIdeal.Run

end
-- ==== Proof.KernelIdeal.Steps.lean ====
/-
  The rule for a loop of 31 steps, and the rule of each kind of step: a signal of the barrier, a transfer, a wait.
-/
module

public import proofs.«01_k».proof.Proof.KernelIdeal.Protocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` may run `p` to a state where `Q` holds. -/
abbrev runs (c : Dev nD) (p : P F PUnit) (Q : PUnit → sProp 𝕄) : sProp 𝕄 :=
  wp frame (wpE (defs₀ (F := F)) 𝒱₀ (c : Thread nD τ) none) Set.univ p Q

/-! ## Sequences and loops -/

/-- One program after another, beside what the first does not touch. -/
theorem runs_seq (c : Dev nD) {R A B X : sProp 𝕄} [BI.Persistent R] {p q : P F PUnit} {Q : PUnit → sProp 𝕄}
    (hp : iprop(R ∗ A) ⊢ runs c p (fun _ => B)) (hq : iprop(R ∗ (B ∗ X)) ⊢ runs c q Q) :
    iprop(R ∗ (A ∗ X)) ⊢ runs c (p >>= fun _ => q) Q := by
  unfold runs at *
  rw [wp_bind]
  iintro ⟨#HR, HA, HX⟩
  iapply (wp_wand_r frame (wpE (defs₀ (F := F)) 𝒱₀ (c : Thread nD τ) none) Set.univ (Q := fun _ => B))
  isplitl [HA]
  · iapply hp
    isplitr; · iexact HR
    iexact HA
  · iintro %a HB
    iapply hq
    isplitr; · iexact HR
    isplitl [HB] <;> iassumption

/-- A loop keeps a statement that each of its steps takes one further. -/
theorem runs_times (c : Dev nD) {R : sProp 𝕄} [BI.Persistent R] : ∀ (n : ℕ) (f : Fin n → P F PUnit) (S : ℕ → sProp 𝕄),
    (∀ k : Fin n, iprop(R ∗ S k.val) ⊢ runs c (f k) (fun _ => S (k.val + 1))) → iprop(R ∗ S 0) ⊢ runs c (times n f) (fun _ => S n)
  | 0, f, S, h => by
    unfold times
    unfold runs
    iintro ⟨-, HS⟩
    rw [wp_ret]; imodintro; iexact HS
  | n + 1, f, S, h => by
    have ih := runs_times c n (fun i => f i.succ) (fun i => S (i + 1)) fun k => h k.succ
    unfold times
    unfold runs at *
    rw [wp_bind]
    iintro ⟨#HR, HS⟩
    iapply (wp_wand_r frame (wpE (defs₀ (F := F)) 𝒱₀ (c : Thread nD τ) none) Set.univ (Q := fun _ => S 1))
    isplitl [HS]
    · have h0 : iprop(R ∗ S 0) ⊢ wp frame (wpE (defs₀ (F := F)) 𝒱₀ (c : Thread nD τ) none) Set.univ (f 0) (fun _ => S 1) := h 0
      iapply h0
      isplitr; · iexact HR
      iexact HS
    · iintro %a HS
      iapply ih
      isplitr; · iexact HR
      iexact HS

/-- A loop of 31 steps whose `k`-th step turns `A k` into `B k` beside a state `S` taken one further. -/
theorem runs_family (c : Dev nD) {R : sProp 𝕄} [BI.Persistent R] (f : Fin 31 → P F PUnit) (S : ℕ → sProp 𝕄) (A B : Fin 31 → sProp 𝕄)
    (h : ∀ k : Fin 31, iprop(R ∗ (S k.val ∗ A k)) ⊢ runs c (f k) (fun _ => iprop(S (k.val + 1) ∗ B k))) :
    iprop(R ∗ (S 0 ∗ bigSep Finset.univ A)) ⊢ runs c (times 31 f) (fun _ => iprop(S 31 ∗ bigSep Finset.univ B)) := by
  have key := runs_times c (R := R) 31 f (fun n => iprop(S n ∗ bigSep (from' n) A ∗ bigSep (below n) B)) fun k => by
    rw [bigSep_from k A, bigSep_below k B]
    iintro ⟨#HR, HS, ⟨HA, HAs⟩, HBs⟩
    iapply (wp_wand_r frame (wpE (defs₀ (F := F)) 𝒱₀ (c : Thread nD τ) none) Set.univ (Q := fun _ => iprop(S (k.val + 1) ∗ B k)))
    isplitl [HS HA]
    · iapply (h k)
      isplitr; · iexact HR
      isplitl [HS] <;> iassumption
    · iintro %a ⟨HS, HB⟩
      isplitl [HS]; · iexact HS
      isplitl [HAs]; · iexact HAs
      isplitl [HB] <;> iassumption
  rw [from_zero, from_end, below_zero, below_end, bigSep_empty, bigSep_empty] at key
  iintro ⟨#HR, HS, HA⟩
  iapply (wp_wand_r frame (wpE (defs₀ (F := F)) 𝒱₀ (c : Thread nD τ) none) Set.univ (Q := fun _ => iprop(S 31 ∗ emp ∗ bigSep Finset.univ B)))
  isplitl [HS HA]
  · iapply key
    isplitr; · iexact HR
    isplitl [HS]; · iexact HS
    isplitl [HA]; · iexact HA
    iempintro
  · iintro %a ⟨HS, -, HB⟩
    isplitl [HS] <;> iassumption

/-! ## The facts every step reads -/

variable (m : (ℓ : Loc nD τ sig) → Buf (Elt F) ℓ)

/-- The invariant of every cell of every device, that each has reached its round, and the levels. -/
def ctx (K : Dev nD × CI → ℕ) : sProp 𝕄 :=
  iprop((bigSep Finset.univ fun ci : Dev nD × CI => cellInv ER (sched m) (K ci) (kcell ci))
    ∗ (bigSep Finset.univ fun ci : Dev nD × CI => reached ER (kcell ci) 0) ∗ levels (F := F))
instance ctx_persistent (K : Dev nD × CI → ℕ) : BI.Persistent (ctx m K) := by unfold ctx; infer_instance

theorem ctx_inv (K : Dev nD × CI → ℕ) (ci : Dev nD × CI) : ctx m K ⊢ cellInv ER (sched m) (K ci) (kcell ci) := by
  unfold ctx
  iintro ⟨H, -, -⟩
  have h : (bigSep Finset.univ fun ci : Dev nD × CI => (cellInv ER (sched m) (K ci) (kcell ci) : sProp 𝕄)) ⊢ cellInv ER (sched m) (K ci) (kcell ci) :=
    bigSep_elim (Finset.mem_univ ci)
  iapply h; iexact H
theorem ctx_reached (K : Dev nD × CI → ℕ) (ci : Dev nD × CI) : ctx m K ⊢ reached ER (kcell ci) 0 := by
  unfold ctx
  iintro ⟨-, H, -⟩
  have h : (bigSep Finset.univ fun ci : Dev nD × CI => (reached ER (kcell ci) 0 : sProp 𝕄)) ⊢ reached ER (kcell ci) 0 :=
    bigSep_elim (Finset.mem_univ ci)
  iapply h; iexact H
theorem ctx_lev (K : Dev nD × CI → ℕ) : ctx m K ⊢ levels (F := F) := by
  unfold ctx
  iintro ⟨-, -, H⟩; iexact H

/-- Device `c` owes `O`, whatever it has waited for. -/
def owing (c : Dev nD) (O : CellTallies nD τ sig Unit) : sProp 𝕄 := iprop(∃ W, owes (c : Thread nD τ) O W)

/-! ## The steps -/

variable (K : Dev nD × CI → ℕ)

/-- What the `k`-th signal of device `c` spends: the duty's token and what the duty hands. -/
def sigRes (c : Dev nD) (k : Fin 31) : sProp 𝕄 := iprop(dutyTok ER (barCell (tgt c k)) 0 (rev k) ∗ barPay (tgt c k) (rev k))

theorem signal_step (c : Dev nD) (O : CellTallies nD τ sig Unit) (k : Fin 31) :
    iprop(ctx m K ∗ (owing c (O + owedTo toBar 1 c k.val) ∗ sigRes c k))
      ⊢ runs c (signal c k) (fun _ => iprop(owing c (O + owedTo toBar 1 c (k.val + 1)) ∗ emp)) := by
  unfold signal
  rw [toDev_eq]
  simp only [semSignalWord, Prog.lift]
  unfold owing sigRes
  iintro ⟨#Hc, ⟨%W, HO⟩, Ht, Hp⟩
  iapply (Rounds.wp_signal 𝒱₀ ER (sched m) (c : Thread nD τ) none (dst := (tgt c k : Thread nD τ)) (κ := K (tgt c k, .inl ()))
      (d := rev k) (r := 0) (k' := (1#32 : BitVec 32).toNat) (show rev k ∈ (sched m).duties (barCell (tgt c k)) 0 by rw [duties_at]; exact Finset.mem_univ _)
      ((amount_at m (tgt c k) (.inl ()) 0 (rev k)).trans (by decide)) () (O + owedTo toBar 1 c (k.val + 1))
      (show O + owedTo toBar 1 c k.val = O + owedTo toBar 1 c (k.val + 1) + tallyAt (barCell (tgt c k)) () 1 by rw [owedTo_step, ← add_assoc]; rfl)) $$ [HO Ht Hp]
  · isplitr; · iapply (ctx_inv m K (tgt c k, .inl ())); iexact Hc
    isplitl [HO]; · iexact HO
    isplitl [Ht]; · iexact Ht
    isplitl [Hp]
    · have hp : barPay (tgt c k) (rev k) ⊢ (sched m).payload ((tgt c k : Thread nD τ), .reg barS) 0 (rev k) :=
        Entails.of_eq (payload_at m (tgt c k) (.inl ()) 0 (rev k)).symm
      iapply hp; iexact Hp
    iapply (ctx_reached m K (tgt c k, .inl ())); iexact Hc
  iintro HO
  rw [wp_ret]; imodintro
  isplitl
  · iexists W; iexact HO
  · iempintro

/-- A transfer from device `c` to the device `k + 1` places after, on semaphores `k + 1` of the arrays `aS` and `aR`. -/
theorem send_step (c n : Dev nD) (k : Fin 31) (hn : n = tgt c k) (aS aR : Fin 4) {sM : Memref sig .tc .vmem S8x256 .f32}
    {tM : Memref sig .tc .vmem S8x256 .f32} {hsc : tM.view.ref.isScScratch = false}
    {hsrc : sM.view.WordExact} {hdst : tM.view.WordExact}
    {hsem : DmaTarget.Typed .vmem (.dma (semAt (arr aR) k)) (.remote (Dev.tc n : Thread nD τ) tM (.dma (semAt (arr aS) k)) hsc)}
    (q : PosShare TreeShare) (fs : Buf (Elt F) (sM.view.loc (c : Thread nD τ)))
    (hN : tM.view.amount (.dma (semAt (arr aR) k)) = N)
    (hp₁ : (sM.view.loc (c : Thread nD τ) ↦[sM.view.set]{q} fs) ⊢ dmaPay m c aS k)
    (hp₂ : ∀ fd : Buf (Elt F) (tM.view.loc (tgt c k : Thread nD τ)),
      (tM.view.loc (tgt c k : Thread nD τ) ↦[tM.view.set]{fullShare} (tM.view.write (Elt F) fd (sM.view.read (Elt F) fs) Finset.univ)) ⊢ dmaPay m (tgt c k) aR k)
    (O : CellTallies nD τ sig Unit) :
    iprop(ctx m K ∗ (owing c (O + owedTo (toDma aR) N c k.val)
        ∗ ((sM.view.loc (c : Thread nD τ) ↦[sM.view.set]{q} fs) ∗ (∃ fd : Buf (Elt F) (tM.view.loc (tgt c k : Thread nD τ)), tM.view.loc (tgt c k : Thread nD τ) ↦[tM.view.set]{fullShare} fd)
          ∗ dutyTok ER (dmaCell c aS k) 0 0 ∗ dutyTok ER (dmaCell (tgt c k) aR k) 0 0)))
      ⊢ runs c (Prog.lift (.enqueueDma sM (.remote (Dev.tc n : Thread nD τ) tM (.dma (semAt (arr aS) k)) hsc) (.dma (semAt (arr aR) k)) hsrc hdst hsem))
        (fun _ => iprop(owing c (O + owedTo (toDma aR) N c (k.val + 1)) ∗ cred (tallyAt (dmaCell c aS k) () N))) := by
  subst hn
  simp only [Prog.lift]
  unfold owing
  iintro ⟨#Hc, ⟨%W, HO⟩, Hs, ⟨%fd, Hd⟩, Ht₁, Ht₂⟩
  iapply (Rounds.wp_send_pointsTo 𝒱₀ ER (sched m) (c : Thread nD τ) none (κ₁ := K (c, .inr (aS, k))) (κ₂ := K (tgt c k, .inr (aR, k)))
      (r₁ := 0) (r₂ := 0) (d₁ := 0) (d₂ := 0) (fd := fd) (q := q) (fs := fs) (W := W)
      (show (0 : Fin 31) ∈ (sched m).duties (dmaCell c aS k) 0 by rw [duties_at]; exact Finset.mem_singleton_self _)
      (show (0 : Fin 31) ∈ (sched m).duties (dmaCell (tgt c k) aR k) 0 by rw [duties_at]; exact Finset.mem_singleton_self _)
      () () N hN (amount_at m c (.inr (aS, k)) 0 0) (amount_at m (tgt c k) (.inr (aR, k)) 0 0)
      (O + owedTo (toDma aR) N c (k.val + 1)) (show O + owedTo (toDma aR) N c k.val = O + owedTo (toDma aR) N c (k.val + 1) + tallyAt (dmaCell (tgt c k) aR k) () N by
        rw [owedTo_step, ← add_assoc]; rfl)
      (hp₁.trans (Entails.of_eq (payload_at m c (.inr (aS, k)) 0 0).symm))
      ((hp₂ fd).trans (Entails.of_eq (payload_at m (tgt c k) (.inr (aR, k)) 0 0).symm))) $$ [HO Hs Hd Ht₁ Ht₂]
  · isplitr; · iapply (ctx_inv m K (c, .inr (aS, k))); iexact Hc
    isplitr; · iapply (ctx_inv m K (tgt c k, .inr (aR, k))); iexact Hc
    isplitl [Hs]; · iexact Hs
    isplitl [Hd]; · iexact Hd
    isplitl [HO]; · iexact HO
    isplitl [Ht₁]; · iexact Ht₁
    isplitr; · iapply (ctx_reached m K (c, .inr (aS, k))); iexact Hc
    isplitl [Ht₂]; · iexact Ht₂
    iapply (ctx_reached m K (tgt c k, .inr (aR, k))); iexact Hc
  iintro ⟨Hcr, HO⟩
  rw [wp_ret]; imodintro
  isplitl [HO]
  · iexists W; iexact HO
  · iexact Hcr

/-- What a wait on a transfer's cell spends, and what it leaves. -/
def waitRes (c : Dev nD) (a : Fin 4) (k : Fin 31) : sProp 𝕄 := iprop(cred (tallyAt (dmaCell c a k) () N) ∗ atPos ER (dmaCell c a k) 0 ∅ 0)
def doneRes (c : Dev nD) (a : Fin 4) (k : Fin 31) : sProp 𝕄 := iprop(dmaPay m c a k ∗ atPos ER (dmaCell c a k) 1 ∅ 0)

/-- A wait for a transfer on semaphore `k + 1` of the array `a`. -/
theorem wait_step (c : Dev nD) (a : Fin 4) (k : Fin 31) (O : CellTallies nD τ sig Unit)
    (hO : levels (F := F) ⊢ MayWait (c : Thread nD τ) (.dma (semAt (arr a) k)) () O) {sM tM : Memref sig .tc .vmem S8x256 .f32}
    {hsrc : sM.view.WordExact} {hdst : tM.view.WordExact} (hN : tM.view.dmaCredit = N) :
    iprop(ctx m K ∗ (owing c O ∗ waitRes c a k))
      ⊢ runs c (Prog.lift (.waitDma2 (semAt (arr a) k) sM tM hsrc hdst)) (fun _ => iprop(owing c O ∗ doneRes m c a k)) := by
  have hm : ctx m K ⊢ (MayWait (c : Thread nD τ) (.dma (semAt (arr a) k)) () O : sProp 𝕄) := (ctx_lev m K).trans hO
  simp only [Prog.lift]
  unfold owing waitRes doneRes
  iintro ⟨#Hc, ⟨%W, HO⟩, Hcr, Hat⟩
  iapply (Rounds.wp_wait_rest_token 𝒱₀ ER (sched m) (c : Thread nD τ) none (κ := K (c, .inr (a, k)))
      (wpE_waitDma2_eq 𝒱₀ (c : Thread nD τ) none Set.univ) (Set.mem_univ _) () (O := O) (W := W) (R := 0) (m := 0) (T := ∅)
      (show 0 + tM.view.dmaCredit = (sched m).expect (dmaCell c a k) 0 by rw [Nat.zero_add, hN, expect_dma])) $$ [HO Hcr Hat]
  · isplitr; · iapply (ctx_inv m K (c, .inr (a, k))); iexact Hc
    isplitl [Hcr]
    · rw [hN]; iexact Hcr
    isplitl [HO]; · iexact HO
    isplitr; · iapply hm; iexact Hc
    iexact Hat
  iintro ⟨HO, Hat, -, Hp⟩
  rw [wp_ret]; imodintro
  isplitl [HO]
  · iexists _; iexact HO
  isplitl [Hp]
  · have hp : bigSep ((sched m).duties ((c : Thread nD τ), .dma (semAt (arr a) k)) 0 \ ∅)
        (fun d => (sched m).payload ((c : Thread nD τ), .dma (semAt (arr a) k)) 0 d) ⊢ dmaPay m c a k := Entails.of_eq (rest_dma m c a k)
    iapply hp; iexact Hp
  · iexact Hat

end Cert.KernelIdeal.Run

end
-- ==== Proof.KernelIdeal.Transfers.lean ====
/-
  The loops of the kernel: the signals, the two rounds of transfers, and the waits for what lands and for what has left.
-/
module

public import proofs.«01_k».proof.Proof.KernelIdeal.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (K : Dev nD × CI → ℕ)

/-- The signals: what is owed to the barriers is paid. -/
theorem signals (c : Dev nD) :
    iprop(ctx m K ∗ (owing c (O₀ c) ∗ bigSep Finset.univ (sigRes c)))
      ⊢ runs c (times 31 (signal c)) (fun _ => iprop(owing c (O₁ c) ∗ bigSep Finset.univ fun _ : Fin 31 => iprop(emp))) := by
  have h := runs_family c (R := ctx m K) (signal c) (fun n => owing c (O₁ c + owedTo toBar 1 c n)) (sigRes c) (fun _ => iprop(emp))
    fun k => signal_step m K c (O₁ c) k
  simp only [owedTo_end, add_zero] at h
  exact h

/-! ## The transfers -/

/-- What the `k`-th send of the scatter spends. -/
def scatterRes (c : Dev nD) (k : Fin 31) : sProp 𝕄 :=
  iprop(partPts m c k ∗ (∃ f, slotPts (tgt c k) k f) ∗ dutyTok ER (dmaCell c 0 k) 0 0 ∗ dutyTok ER (dmaCell (tgt c k) 1 k) 0 0)
/-- What the `k`-th send of the gather spends. -/
def gatherRes (c : Dev nD) (k : Fin 31) : sProp 𝕄 :=
  iprop(redPts m c k.succ ∗ (∃ f, outPts (tgt c k) c f) ∗ dutyTok ER (dmaCell c 2 k) 0 0 ∗ dutyTok ER (dmaCell (tgt c k) 3 k) 0 0)

theorem scatter_step (c : Dev nD) (O : CellTallies nD τ sig Unit) (k : Fin 31) :
    iprop(ctx m K ∗ (owing c (O + owedTo (toDma 1) N c k.val) ∗ scatterRes m c k))
      ⊢ runs c (scatter c k) (fun _ => iprop(owing c (O + owedTo (toDma 1) N c (k.val + 1)) ∗ cred (tallyAt (dmaCell c 0 k) () N))) := by
  unfold scatterRes slotPts partPts
  refine send_step m K c (toDev c k) k (toDev_eq c k) 0 1 (sM := partM c k) (tM := slotM k) fullShare (part m c) (amount_slot k _) (Entails.refl _) (fun fd => ?_) O
  show _ ⊢ slotPts (tgt c k) k (landed m (tgt c k))
  unfold slotPts
  exact Entails.of_eq (pointsTo_congr fun i hi => scatter_lands m c k fd i hi)

theorem gather_step (c : Dev nD) (k : Fin 31) :
    iprop(ctx m K ∗ (owing c (0 + owedTo (toDma 3) N c k.val) ∗ gatherRes m c k))
      ⊢ runs c (gather c k) (fun _ => iprop(owing c (0 + owedTo (toDma 3) N c (k.val + 1)) ∗ cred (tallyAt (dmaCell c 2 k) () N))) := by
  unfold gatherRes outPts redPts
  refine send_step m K c (toDev c k) k (toDev_eq c k) 2 3 (sM := rM) (tM := ownM c) (leafOf k.succ) (red m c) (amount_own c _) (Entails.refl _) (fun fd => ?_) 0
  show _ ⊢ outPts (tgt c k) (src (tgt c k) k) (outAll m)
  rw [src_tgt]
  unfold outPts
  exact Entails.of_eq (pointsTo_congr fun i hi => rows_lands m c (k0_off3_eq c) _ fd i (own_set c ▸ hi))

/-- The scatter: every send is under way. -/
theorem scatters (c : Dev nD) :
    iprop(ctx m K ∗ (owing c (O₁ c) ∗ bigSep Finset.univ (scatterRes m c)))
      ⊢ runs c (times 31 (scatter c)) (fun _ => iprop(owing c (O₂ c) ∗ bigSep Finset.univ fun k : Fin 31 => cred (tallyAt (dmaCell c 0 k) () N))) := by
  have h := runs_family c (R := ctx m K) (scatter c) (fun n => owing c (O₂ c + owedTo (toDma 1) N c n)) (scatterRes m c)
    (fun k => cred (tallyAt (dmaCell c 0 k) () N)) fun k => scatter_step m K c (O₂ c) k
  simp only [owedTo_end, add_zero] at h
  exact h
/-- The gather: every send is under way and nothing is owed. -/
theorem gathers (c : Dev nD) :
    iprop(ctx m K ∗ (owing c (O₂ c) ∗ bigSep Finset.univ (gatherRes m c)))
      ⊢ runs c (times 31 (gather c)) (fun _ => iprop(owing c 0 ∗ bigSep Finset.univ fun k : Fin 31 => cred (tallyAt (dmaCell c 2 k) () N))) := by
  have h := runs_family c (R := ctx m K) (gather c) (fun n => owing c (0 + owedTo (toDma 3) N c n)) (gatherRes m c)
    (fun k => cred (tallyAt (dmaCell c 2 k) () N)) fun k => gather_step m K c k
  simp only [owedTo_end, add_zero, zero_add] at h
  exact h

/-! ## The waits -/

/-- A loop of waits on the semaphores of one array takes what each transfer hands. -/
theorem waits_of (c : Dev nD) (a : Fin 4) (O : CellTallies nD τ sig Unit) (f : Fin 31 → P F PUnit)
    (h : ∀ k, iprop(ctx m K ∗ (owing c O ∗ waitRes c a k)) ⊢ runs c (f k) (fun _ => iprop(owing c O ∗ doneRes m c a k))) :
    iprop(ctx m K ∗ (owing c O ∗ bigSep Finset.univ (waitRes c a)))
      ⊢ runs c (times 31 f) (fun _ => iprop(owing c O ∗ bigSep Finset.univ (doneRes m c a))) :=
  runs_family c (R := ctx m K) f (fun _ => owing c O) (waitRes c a) (doneRes m c a) h

theorem arrives (c : Dev nD) :
    iprop(ctx m K ∗ (owing c (O₂ c) ∗ bigSep Finset.univ (waitRes c 1)))
      ⊢ runs c (times 31 (arrive c)) (fun _ => iprop(owing c (O₂ c) ∗ bigSep Finset.univ (doneRes m c 1))) :=
  waits_of m K c 1 (O₂ c) (arrive c) fun k =>
    wait_step m K c 1 k (O₂ c) (mayWait_recv c k) (sM := partM c k) (tM := slotM k) (credit_slot k)
theorem collects (c : Dev nD) :
    iprop(ctx m K ∗ (owing c 0 ∗ bigSep Finset.univ (waitRes c 3)))
      ⊢ runs c (times 31 (collect c)) (fun _ => iprop(owing c 0 ∗ bigSep Finset.univ (doneRes m c 3))) :=
  waits_of m K c 3 0 (collect c) fun k =>
    wait_step m K c 3 k 0 (mayWait_none c _) (sM := rM) (tM := prevM c k) (credit_prev c k)
theorem lefts1 (c : Dev nD) :
    iprop(ctx m K ∗ (owing c 0 ∗ bigSep Finset.univ (waitRes c 0)))
      ⊢ runs c (times 31 (left1 c)) (fun _ => iprop(owing c 0 ∗ bigSep Finset.univ (doneRes m c 0))) :=
  waits_of m K c 0 0 (left1 c) fun k =>
    wait_step m K c 0 k 0 (mayWait_none c _) (sM := slotM k) (tM := partM c k) (credit_part c k)
theorem lefts2 (c : Dev nD) :
    iprop(ctx m K ∗ (owing c 0 ∗ bigSep Finset.univ (waitRes c 2)))
      ⊢ runs c (times 31 (left2 c)) (fun _ => iprop(owing c 0 ∗ bigSep Finset.univ (doneRes m c 2))) :=
  waits_of m K c 2 0 (left2 c) fun k =>
    wait_step m K c 2 k 0 (mayWait_none c _) (sM := ownM c) (tM := rM) credit_red

end Cert.KernelIdeal.Run

end
-- ==== Proof.KernelIdeal.Local.lean ====
/-
  The two stretches of loads and stores: the partial product, up to the wait for the barrier, and the sum of the rows.
-/
module

public import proofs.«01_k».proof.Proof.KernelIdeal.Steps
public import Idealize.ShloMosaic.Lib.Pipeline.Value

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (K : Dev nD × CI → ℕ)

theorem hz2 : (![0, 0] : Fin 2 → ℕ) = fun _ => 0 := funext fun a => by fin_cases a <;> rfl

/-! A load of a whole operand reads the operand. -/

theorem read_x (c : Dev nD) : xM.view.readAt (Elt F) (Rect.unit (s := S256x256) ![0, 0] S256x256.size inb_S256x256_S256x256_0_0).toLoadRect (opX m c) = opX m c :=
  Memref.readAt_unit_zero (Elt F) cc0_stg0_0 hz2 _ _
theorem read_g (c : Dev nD) : gM.view.readAt (Elt F) (Rect.unit (s := S256x512) ![0, 0] S256x512.size inb_S256x512_S256x512_0_0).toLoadRect (opG m c) = opG m c :=
  Memref.readAt_unit_zero (Elt F) cc0_stg1_0 hz2 _ _
theorem read_u (c : Dev nD) : uM.view.readAt (Elt F) (Rect.unit (s := S256x512) ![0, 0] S256x512.size inb_S256x512_S256x512_0_0).toLoadRect (opU m c) = opU m c :=
  Memref.readAt_unit_zero (Elt F) cc0_stg2_0 hz2 _ _
theorem read_d (c : Dev nD) : dM.view.readAt (Elt F) (Rect.unit (s := S512x256) ![0, 0] S512x256.size inb_S512x256_S512x256_0_0).toLoadRect (opD m c) = opD m c :=
  Memref.readAt_unit_zero (Elt F) cc0_stg3_0 hz2 _ _

/-- The staged operands of device `c`. -/
def inputs (c : Dev nD) : sProp 𝕄 :=
  iprop(((c : Thread nD τ).loc cc0_stg0_0 ↦{fullShare} opX m c) ∗ ((c : Thread nD τ).loc cc0_stg1_0 ↦{fullShare} opG m c)
    ∗ ((c : Thread nD τ).loc cc0_stg2_0 ↦{fullShare} opU m c) ∗ ((c : Thread nD τ).loc cc0_stg3_0 ↦{fullShare} opD m c))

set_option maxHeartbeats 1000000 in
/-- The partial product is stored, and past the barrier every other device has handed over its slot and its rows. -/
theorem product_runs (c : Dev nD) :
    iprop(ctx m K ∗ (owing c (O₁ c) ∗ cred (tallyAt (barCell c) () 31) ∗ atPos ER (barCell c) 0 ∅ 0 ∗ inputs m c
        ∗ ∃ f, (c : Thread nD τ).loc cc0_scratch0 ↦{fullShare} f))
      ⊢ runs c (product c) (fun _ => iprop(owing c (O₁ c) ∗ atPos ER (barCell c) 1 ∅ 0 ∗ bigSep Finset.univ (barPay c) ∗ inputs m c
        ∗ ((c : Thread nD τ).loc cc0_scratch0 ↦{fullShare} part m c))) := by
  have hm : ctx m K ⊢ (MayWait (c : Thread nD τ) (.reg barS) () (O₁ c) : sProp 𝕄) := (ctx_lev m K).trans (mayWait_bar c)
  unfold product
  simp only [semWaitWord, Prog.lift, Prog.bind_op, Prog.bind_ret, Prog.pure_eq_ret]
  unfold owing inputs
  iintro ⟨#Hc, ⟨%W, HO⟩, Hcr, Hat, ⟨Hx, Hg, Hu, Hd⟩, ⟨%f, Hp⟩⟩
  iapply (wp_load 𝒱₀ (c : Thread nD τ) none Set.univ (m := xM) (Finset.subset_univ _)) $$ Hx; iintro Hx
  rw [read_x]
  iapply (wp_load 𝒱₀ (c : Thread nD τ) none Set.univ (m := gM) (Finset.subset_univ _)) $$ Hg; iintro Hg
  rw [read_g]
  iapply (wp_load 𝒱₀ (c : Thread nD τ) none Set.univ (m := uM) (Finset.subset_univ _)) $$ Hu; iintro Hu
  rw [read_u]
  iapply (wp_load 𝒱₀ (c : Thread nD τ) none Set.univ (m := dM) (Finset.subset_univ _)) $$ Hd; iintro Hd
  rw [read_d]
  iapply (wp_load 𝒱₀ (c : Thread nD τ) none Set.univ (m := pM) (Finset.subset_univ _)) $$ Hp; iintro Hp
  iapply (wp_store 𝒱₀ (c : Thread nD τ) none Set.univ (m := pM) (r := Rect.unit (s := S256x256) ![0, 0] S256x256.size inb_S256x256_S256x256_0_0) (Mk := Finset.univ) (Finset.subset_univ _)) $$ Hp; iintro Hp
  have e : (pM.access (Rect.unit (s := S256x256) ![0, 0] S256x256.size inb_S256x256_S256x256_0_0)).write (Elt F) f
      (k0_pay1 (opX m c) (opG m c) (opU m c) (opD m c)) Finset.univ = part m c :=
    Memref.write_access_unit_zero_univ (Elt F) cc0_scratch0 hz2 _ f _
  rw [e]
  iapply (Rounds.wp_wait_rest_token 𝒱₀ ER (sched m) (c : Thread nD τ) none (κ := K (c, .inl ()))
      (wpE_semWait_eq 𝒱₀ (c : Thread nD τ) none Set.univ) (Set.mem_univ _) () (O := O₁ c) (W := W) (R := 0) (m := 0) (T := ∅)
      (show 0 + (31#32 : BitVec 32).toNat = (sched m).expect (barCell c) 0 by rw [expect_bar]; decide)) $$ [HO Hcr Hat]
  · isplitr; · iapply (ctx_inv m K (c, .inl ())); iexact Hc
    isplitl [Hcr]; · iexact Hcr
    isplitl [HO]; · iexact HO
    isplitr; · iapply hm; iexact Hc
    iexact Hat
  iintro ⟨HO, Hat, -, Hpay⟩
  rw [wp_ret]; imodintro
  isplitl [HO]; · iexists _; iexact HO
  isplitl [Hat]; · iexact Hat
  isplitl [Hpay]
  · have hp : bigSep ((sched m).duties ((c : Thread nD τ), .reg barS) 0 \ ∅)
        (fun d => (sched m).payload ((c : Thread nD τ), .reg barS) 0 d) ⊢ bigSep Finset.univ (barPay (F := F) c) := Entails.of_eq (rest_bar m c)
    iapply hp; iexact Hpay
  isplitl [Hx Hg Hu Hd]
  · isplitl [Hx]; · iexact Hx
    isplitl [Hg]; · iexact Hg
    isplitl [Hu] <;> iassumption
  iexact Hp

/-- The slots 1 to 31. -/
def landing : Finset S32x8x256.Idx := (Finset.univ : Finset (Fin 31)).biUnion fun k => slot k.succ

theorem mem_landing {i : S32x8x256.Idx} : i ∈ landing ↔ 1 ≤ (i 0).val := by
  unfold landing
  rw [Finset.mem_biUnion]
  have h : (i 0).val < 32 := (i 0).isLt
  constructor
  · rintro ⟨k, -, hk⟩
    rw [mem_slot] at hk
    rw [hk]; exact Nat.succ_pos _
  · intro h1
    refine ⟨⟨(i 0).val - 1, by omega⟩, Finset.mem_univ _, mem_slot.mpr ?_⟩
    show (i 0).val = (i 0).val - 1 + 1
    omega

theorem slots_emb (y : S31x8x256.Idx) :
    (Rect.unit (s := S32x8x256) ![1, 0, 0] S31x8x256.size inb_S32x8x256_S31x8x256_1_0_0).emb y = ix3 (Fin.succ (y 0)) (y 1) (y 2) := by
  funext a
  refine Fin.ext ((rect_emb_unit_val _ _ _ y a).trans ?_)
  fin_cases a
  · show 1 + (y 0).val = (y 0).val + 1
    omega
  · exact Nat.zero_add _
  · exact Nat.zero_add _

/-- The load of the device's own rows of the partial product, -/
theorem read_own (c : Dev nD) :
    (pM.access (Rect.unit (s := S256x256) (k0_off2 c) S8x256.size (k0_off2_inb c))).read (Elt F) (part m c) = ownRows m c :=
  funext fun x => congrArg (part m c) (rect_emb c (k0_off2_eq c) _ x)
/-- and of the slots. -/
theorem read_slots (c : Dev nD) :
    (bM.access (Rect.unit (s := S32x8x256) ![1, 0, 0] S31x8x256.size inb_S32x8x256_S31x8x256_1_0_0)).read (Elt F) (landed m c) = slots m c :=
  funext fun y => congrArg (landed m c) (slots_emb y)

set_option maxHeartbeats 1000000 in
/-- The rows of `c` are summed over the devices and stored, in the scratch and in the result. -/
theorem reduce_runs (c : Dev nD) (O : CellTallies nD τ sig Unit) :
    iprop(ctx m K ∗ (owing c O ∗ ((c : Thread nD τ).loc cc0_scratch0 ↦[rows c]{fullShare} part m c)
        ∗ ((c : Thread nD τ).loc cc0_scratch2 ↦[landing]{fullShare} landed m c)
        ∗ (∃ f, (c : Thread nD τ).loc cc0_scratch1 ↦{fullShare} f) ∗ ∃ f, (c : Thread nD τ).loc cc0_stg4_0 ↦[rows c]{fullShare} f))
      ⊢ runs c (reduce c) (fun _ => iprop(owing c O ∗ ((c : Thread nD τ).loc cc0_scratch0 ↦[rows c]{fullShare} part m c)
        ∗ ((c : Thread nD τ).loc cc0_scratch2 ↦[landing]{fullShare} landed m c)
        ∗ ((c : Thread nD τ).loc cc0_scratch1 ↦{fullShare} red m c) ∗ ((c : Thread nD τ).loc cc0_stg4_0 ↦[rows c]{fullShare} outAll m))) := by
  unfold reduce
  simp only [Prog.lift, Prog.bind_op, Prog.bind_ret, Prog.pure_eq_ret]
  iintro ⟨#Hc, HO, Hp, Hb, ⟨%fr, Hr⟩, ⟨%fo, Ho⟩⟩
  have hp : (pM.access (Rect.unit (s := S256x256) (k0_off2 c) S8x256.size (k0_off2_inb c))).set ⊆ rows c :=
    Finset.subset_of_eq ((View.set_slice_whole cc0_scratch0 _).trans (rect_rows c (k0_off2_eq c) _))
  have ho : (oM.access (Rect.unit (s := S256x256) (k0_off2 c) S8x256.size (k0_off2_inb c))).set ⊆ rows c :=
    Finset.subset_of_eq ((View.set_slice_whole cc0_stg4_0 _).trans (rect_rows c (k0_off2_eq c) _))
  have hb : (bM.access (Rect.unit (s := S32x8x256) ![1, 0, 0] S31x8x256.size inb_S32x8x256_S31x8x256_1_0_0)).set ⊆ landing := by
    intro i hi
    obtain ⟨y, -, rfl⟩ := Finset.mem_map.mp hi
    refine mem_landing.mpr ?_
    have h := slots_emb y
    show 1 ≤ ((Rect.unit (s := S32x8x256) ![1, 0, 0] S31x8x256.size inb_S32x8x256_S31x8x256_1_0_0).emb y 0).val
    rw [h]
    exact Nat.succ_pos _
  iapply (wp_load_rect 𝒱₀ (c : Thread nD τ) none Set.univ (m := pM) hp) $$ Hp; iintro Hp
  rw [read_own]
  iapply (wp_load_rect 𝒱₀ (c : Thread nD τ) none Set.univ (m := bM) hb) $$ Hb; iintro Hb
  rw [read_slots]
  iapply (wp_load 𝒱₀ (c : Thread nD τ) none Set.univ (m := rM) (Finset.subset_univ _)) $$ Hr; iintro Hr
  iapply (wp_store 𝒱₀ (c : Thread nD τ) none Set.univ (m := rM) (r := Rect.unit (s := S8x256) ![0, 0] S8x256.size inb_S8x256_S8x256_0_0) (Mk := Finset.univ) (Finset.subset_univ _)) $$ Hr; iintro Hr
  have er : (rM.access (Rect.unit (s := S8x256) ![0, 0] S8x256.size inb_S8x256_S8x256_0_0)).write (Elt F) fr
      (k0_pay3 (ownRows m c) (slots m c)) Finset.univ = red m c := by
    refine (Memref.write_access_unit_zero_univ (Elt F) cc0_scratch1 hz2 _ fr _).trans ?_
    unfold k0_pay3 red
    exact shapeCast_self _ _
  rw [er]
  iapply (wp_load_rect 𝒱₀ (c : Thread nD τ) none Set.univ (m := oM) ho) $$ Ho; iintro Ho
  iapply (wp_store 𝒱₀ (c : Thread nD τ) none Set.univ (m := oM) (r := Rect.unit (s := S256x256) (k0_off2 c) S8x256.size (k0_off2_inb c)) (Mk := Finset.univ) ho) $$ Ho; iintro Ho
  rw [wp_ret]; imodintro
  isplitl [HO]; · iexact HO
  isplitl [Hp]; · iexact Hp
  isplitl [Hb]; · iexact Hb
  isplitl [Hr]; · iexact Hr
  have eo : ((c : Thread nD τ).loc cc0_stg4_0 ↦[rows c]{fullShare}
      ((oM.access (Rect.unit (s := S256x256) (k0_off2 c) S8x256.size (k0_off2_inb c))).write (Elt F) fo (k0_pay2 (ownRows m c) (slots m c)) Finset.univ) : sProp 𝕄)
      = ((c : Thread nD τ).loc cc0_stg4_0 ↦[rows c]{fullShare} outAll m) :=
    pointsTo_congr fun i hi => rows_lands m c (k0_off2_eq c) _ fo i hi
  iapply (Entails.of_eq eo); iexact Ho

end Cert.KernelIdeal.Run

end
-- ==== Proof.KernelIdeal.Pieces.lean ====
/-
  How the buffers of a device are cut into the blocks its transfers name and put together again, and how a family over
  the devices, the slots or the cells is cut.
-/
module

public import proofs.«01_k».proof.Proof.KernelIdeal.Local

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ)

/-! ## Families -/

/-- A family over the devices: one device, and those 1 to 31 places after. -/
theorem bigSep_devs (c : Dev nD) (Φ : Dev nD → sProp 𝕄) :
    bigSep Finset.univ Φ = iprop(Φ c ∗ bigSep Finset.univ fun k : Fin 31 => Φ (tgt c k)) := by
  have h : bigSep (Finset.univ.image (tgt c)) Φ = bigSep Finset.univ fun k : Fin 31 => Φ (tgt c k) :=
    bigSep_image_of_injOn (fun _ _ _ _ e => tgt_inj c e) Φ
  rw [bigSep_univ_split c, erase_eq, h]; rfl
/-- A family over the slots: slot 0 and slots 1 to 31. -/
theorem bigSep_slots (Φ : Fin 32 → sProp 𝕄) : bigSep Finset.univ Φ = iprop(Φ 0 ∗ bigSep Finset.univ fun k : Fin 31 => Φ k.succ) := by
  have e : (Finset.univ : Finset (Fin 32)).erase 0 = Finset.univ.image (fun k : Fin 31 => k.succ) := by decide +kernel
  have h : bigSep (Finset.univ.image (fun k : Fin 31 => k.succ)) Φ = bigSep Finset.univ fun k : Fin 31 => Φ k.succ :=
    bigSep_image_of_injOn (fun _ _ _ _ e => Fin.succ_injective 31 e) Φ
  rw [bigSep_univ_split 0, e, h]; rfl
/-- A family over the steps, taken backwards. -/
theorem bigSep_rev (Φ : Fin 31 → sProp 𝕄) : bigSep Finset.univ (fun k : Fin 31 => Φ (rev k)) = bigSep Finset.univ Φ :=
  (bigSep_univ_equiv (⟨rev, rev, rev_rev, rev_rev⟩ : Fin 31 ≃ Fin 31) Φ).symm
/-- A family over the four arrays of 31 semaphores. -/
theorem bigSep_arrays (Φ : Fin 4 × Fin 31 → sProp 𝕄) :
    bigSep Finset.univ Φ = iprop((bigSep Finset.univ fun k : Fin 31 => Φ (0, k)) ∗ (bigSep Finset.univ fun k : Fin 31 => Φ (1, k))
      ∗ (bigSep Finset.univ fun k : Fin 31 => Φ (2, k)) ∗ (bigSep Finset.univ fun k : Fin 31 => Φ (3, k))) := by
  have e : (Finset.univ : Finset (Fin 4)) = {0, 1, 2, 3} := by decide
  rw [bigSep_univ_prod, e, bigSep_insert (by decide), bigSep_insert (by decide), bigSep_insert (by decide), bigSep_singleton]; rfl
/-- A family over a device's cells: the barrier's, and one for each array. -/
theorem bigSep_cells (Φ : CI → sProp 𝕄) :
    bigSep Finset.univ Φ = iprop(Φ (.inl ()) ∗ (bigSep Finset.univ fun k : Fin 31 => Φ (.inr (0, k))) ∗ (bigSep Finset.univ fun k : Fin 31 => Φ (.inr (1, k)))
      ∗ (bigSep Finset.univ fun k : Fin 31 => Φ (.inr (2, k))) ∗ (bigSep Finset.univ fun k : Fin 31 => Φ (.inr (3, k)))) := by
  rw [bigSep_univ_sum, bigSep_arrays, bigSep_univ_of_subsingleton (PUnit.unit : Unit)]; rfl
/-- Each of a family beside a lasting fact. -/
theorem bigSep_beside {I : Type} [DecidableEq I] [Fintype I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

/-! ## The buffers -/

/-! Each is cut into the blocks the transfers name. -/

theorem part_split (c : Dev nD) :
    ((c : Thread nD τ).loc cc0_scratch0 ↦{fullShare} part m c : sProp 𝕄)
      = iprop(((c : Thread nD τ).loc cc0_scratch0 ↦[rows c]{fullShare} part m c) ∗ bigSep Finset.univ (partPts m c)) := by
  have h1 : ((c : Thread nD τ).loc cc0_scratch0 ↦{fullShare} part m c : sProp 𝕄)
      = bigSep Finset.univ fun e : Dev nD => ((c : Thread nD τ).loc cc0_scratch0 ↦[rows e]{fullShare} part m c) := by
    rw [← pointsTo_biUnion (ℓ := (c : Thread nD τ).loc cc0_scratch0) Finset.univ rows fun e _ e' _ h => rows_disjoint h, rows_cover]
  rw [h1, bigSep_devs c]
  refine congrArg (fun X => iprop(_ ∗ X)) (bigSep_congr fun k _ => ?_)
  unfold partPts
  rw [part_set]
theorem out_split (c : Dev nD) (f : Buf (Elt F) ((c : Thread nD τ).loc cc0_stg4_0)) :
    ((c : Thread nD τ).loc cc0_stg4_0 ↦{fullShare} f : sProp 𝕄)
      = iprop(((c : Thread nD τ).loc cc0_stg4_0 ↦[rows c]{fullShare} f) ∗ bigSep Finset.univ fun k : Fin 31 => outPts c (tgt c k) f) := by
  have h1 : ((c : Thread nD τ).loc cc0_stg4_0 ↦{fullShare} f : sProp 𝕄)
      = bigSep Finset.univ fun e : Dev nD => ((c : Thread nD τ).loc cc0_stg4_0 ↦[rows e]{fullShare} f) := by
    rw [← pointsTo_biUnion (ℓ := (c : Thread nD τ).loc cc0_stg4_0) Finset.univ rows fun e _ e' _ h => rows_disjoint h, rows_cover]
  rw [h1, bigSep_devs c]
  refine congrArg (fun X => iprop(_ ∗ X)) (bigSep_congr fun k _ => ?_)
  unfold outPts
  rw [own_set]
theorem slots_split (c : Dev nD) (f : Buf (Elt F) ((c : Thread nD τ).loc cc0_scratch2)) :
    ((c : Thread nD τ).loc cc0_scratch2 ↦{fullShare} f : sProp 𝕄)
      = iprop(((c : Thread nD τ).loc cc0_scratch2 ↦[slot 0]{fullShare} f) ∗ bigSep Finset.univ fun k : Fin 31 => slotPts c k f) := by
  have h1 : ((c : Thread nD τ).loc cc0_scratch2 ↦{fullShare} f : sProp 𝕄)
      = bigSep Finset.univ fun j : Fin 32 => ((c : Thread nD τ).loc cc0_scratch2 ↦[slot j]{fullShare} f) := by
    rw [← pointsTo_biUnion (ℓ := (c : Thread nD τ).loc cc0_scratch2) Finset.univ slot fun e _ e' _ h => slot_disjoint h, slot_cover]
  rw [h1, bigSep_slots]
  refine congrArg (fun X => iprop(_ ∗ X)) (bigSep_congr fun k _ => ?_)
  unfold slotPts
  rw [slot_set]
/-- Slots 1 to 31, as one region. -/
theorem landing_eq (c : Dev nD) (f : Buf (Elt F) ((c : Thread nD τ).loc cc0_scratch2)) :
    ((c : Thread nD τ).loc cc0_scratch2 ↦[landing]{fullShare} f : sProp 𝕄) = bigSep Finset.univ fun k : Fin 31 => slotPts c k f := by
  unfold landing
  rw [pointsTo_biUnion (ℓ := (c : Thread nD τ).loc cc0_scratch2) Finset.univ (fun k : Fin 31 => slot k.succ)
    fun k _ k' _ h => slot_disjoint fun e => h (Fin.succ_injective 31 e)]
  refine bigSep_congr fun k _ => ?_
  unfold slotPts
  rw [slot_set]
/-- Slot 0 beside the others is the whole landing buffer. -/
theorem slots_join (c : Dev nD) (f g : Buf (Elt F) ((c : Thread nD τ).loc cc0_scratch2)) :
    iprop(((c : Thread nD τ).loc cc0_scratch2 ↦[slot 0]{fullShare} f) ∗ ((c : Thread nD τ).loc cc0_scratch2 ↦[landing]{fullShare} g))
      ⊢ (iprop(∃ h, (c : Thread nD τ).loc cc0_scratch2 ↦{fullShare} h) : sProp 𝕄) := by
  have hd : Disjoint (slot 0) landing := Finset.disjoint_left.mpr fun i h0 h1 => by
    rw [mem_slot] at h0; rw [mem_landing] at h1
    rw [h0] at h1; exact absurd h1 (by decide)
  have hu : slot 0 ∪ landing = Finset.univ := Finset.eq_univ_of_forall fun i => by
    rw [Finset.mem_union, mem_slot, mem_landing]
    show (i 0).val = 0 ∨ _
    omega
  have h : iprop(((c : Thread nD τ).loc cc0_scratch2 ↦[slot 0]{fullShare} f) ∗ ((c : Thread nD τ).loc cc0_scratch2 ↦[landing]{fullShare} g))
      ⊢ ((c : Thread nD τ).loc cc0_scratch2 ↦[slot 0 ∪ landing]{fullShare} landing.piecewise g f : sProp 𝕄) := pointsTo_join hd
  rw [hu] at h
  iintro H
  iexists _
  iapply h; iexact H
/-- A buffer, cut into 32 shares. -/
theorem shares_split (ℓ : Loc nD τ sig) (f : Buf (Elt F) ℓ) :
    (ℓ ↦{fullShare} f : sProp 𝕄) = bigSep Finset.univ fun k : Fin (2 ^ 5) => (ℓ ↦{ShareLeaves.leaf 5 fullShare k} f : sProp 𝕄) :=
  ShareLeaves.pointsTo_leaves (ℓ := ℓ) Finset.univ f 5 fullShare
theorem redPts_eq (c : Dev nD) (k : Fin 32) : redPts m c k = ((c : Thread nD τ).loc cc0_scratch1 ↦{leafOf k} red m c : sProp 𝕄) := by
  unfold redPts
  rw [View.set_whole]
/-- The summed rows, cut into the shares the sends read with. -/
theorem red_split (c : Dev nD) :
    ((c : Thread nD τ).loc cc0_scratch1 ↦{fullShare} red m c : sProp 𝕄) = iprop(redPts m c 0 ∗ bigSep Finset.univ fun k : Fin 31 => redPts m c k.succ) := by
  rw [← bigSep_slots (fun k : Fin 32 => redPts m c k), bigSep_congr (s := Finset.univ) fun k _ => redPts_eq m c k]
  exact shares_split _ _

end Cert.KernelIdeal.Run

end
-- ==== Proof.KernelIdeal.Body.lean ====
/-
  The whole program of a device: from what the launch deals it to what it returns.
-/
module

public import proofs.«01_k».proof.Proof.KernelIdeal.Transfers
public import proofs.«01_k».proof.Proof.KernelIdeal.Pieces

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (K : Dev nD × CI → ℕ)

/-! ## What passes from one stretch to the next -/

/-- The tokens of the duties device `c` pays. -/
def payToks (c : Dev nD) : sProp 𝕄 :=
  iprop((bigSep Finset.univ fun k : Fin 31 => dutyTok ER (barCell (tgt c k)) 0 (rev k))
    ∗ (bigSep Finset.univ fun k : Fin 31 => dutyTok ER (dmaCell c 0 k) 0 0) ∗ (bigSep Finset.univ fun k : Fin 31 => dutyTok ER (dmaCell (tgt c k) 1 k) 0 0)
    ∗ (bigSep Finset.univ fun k : Fin 31 => dutyTok ER (dmaCell c 2 k) 0 0) ∗ (bigSep Finset.univ fun k : Fin 31 => dutyTok ER (dmaCell (tgt c k) 3 k) 0 0))
/-- Where device `c` stands at each of its cells. -/
def positions (c : Dev nD) (r : ℕ) : sProp 𝕄 := bigSep Finset.univ fun i : CI => atPos ER (kcell (c, i)) r ∅ 0
/-- The credit of what the other devices send. -/
def incoming (c : Dev nD) : sProp 𝕄 :=
  iprop(cred (tallyAt (barCell c) () 31) ∗ (bigSep Finset.univ fun k : Fin 31 => cred (tallyAt (dmaCell c 1 k) () N))
    ∗ (bigSep Finset.univ fun k : Fin 31 => cred (tallyAt (dmaCell c 3 k) () N)))

theorem barPay_rev (c : Dev nD) (k : Fin 31) : (barPay (tgt c k) (rev k) : sProp 𝕄) = iprop((∃ f, slotPts c (rev k) f) ∗ ∃ f, outPts c (tgt c k) f) := by
  unfold barPay
  rw [tgt_rev]

/-- The signals hand over the slots and the rows of the result the other devices will write. -/
theorem signals_intro (c : Dev nD) :
    iprop((bigSep Finset.univ fun k : Fin 31 => dutyTok ER (barCell (tgt c k)) 0 (rev k)) ∗ (∃ f, (c : Thread nD τ).loc cc0_stg4_0 ↦{fullShare} f)
        ∗ ∃ f, (c : Thread nD τ).loc cc0_scratch2 ↦{fullShare} f)
      ⊢ (iprop((bigSep Finset.univ (sigRes c)) ∗ (∃ f, (c : Thread nD τ).loc cc0_stg4_0 ↦[rows c]{fullShare} f)
        ∗ ∃ f, (c : Thread nD τ).loc cc0_scratch2 ↦[slot 0]{fullShare} f) : sProp 𝕄) := by
  have e : (bigSep Finset.univ (sigRes c) : sProp 𝕄) = iprop((bigSep Finset.univ fun k : Fin 31 => dutyTok ER (barCell (tgt c k)) 0 (rev k))
      ∗ (bigSep Finset.univ fun k : Fin 31 => iprop(∃ f, slotPts c k f)) ∗ bigSep Finset.univ fun k : Fin 31 => iprop(∃ f, outPts c (tgt c k) f)) := by
    rw [← bigSep_rev (fun k : Fin 31 => iprop(∃ f, slotPts c k f)), ← bigSep_sep', ← bigSep_sep']
    refine bigSep_congr fun k _ => ?_
    unfold sigRes
    rw [barPay_rev]
  rw [e]
  iintro ⟨Ht, ⟨%fo, Ho⟩, ⟨%fs, Hs⟩⟩
  ihave Ho := (Entails.of_eq (out_split c fo)) $$ Ho
  ihave Hs := (Entails.of_eq (slots_split c fs)) $$ Hs
  icases Ho with ⟨Ho, Hos⟩
  icases Hs with ⟨Hs, Hss⟩
  have h1 : (bigSep Finset.univ fun k : Fin 31 => slotPts c k fs) ⊢ (bigSep Finset.univ fun k : Fin 31 => iprop(∃ f, slotPts c k f) : sProp 𝕄) :=
    bigSep_mono fun k _ => (show (slotPts c k fs : sProp 𝕄) ⊢ iprop(∃ f, slotPts c k f) by iintro H; iexists fs; iexact H)
  have h2 : (bigSep Finset.univ fun k : Fin 31 => outPts c (tgt c k) fo) ⊢ (bigSep Finset.univ fun k : Fin 31 => iprop(∃ f, outPts c (tgt c k) f) : sProp 𝕄) :=
    bigSep_mono fun k _ => (show (outPts c (tgt c k) fo : sProp 𝕄) ⊢ iprop(∃ f, outPts c (tgt c k) f) by iintro H; iexists fo; iexact H)
  isplitl [Ht Hss Hos]
  · isplitl [Ht]; · iexact Ht
    isplitl [Hss]
    · iapply h1; iexact Hss
    · iapply h2; iexact Hos
  isplitl [Ho]
  · iexists fo; iexact Ho
  · iexists fs; iexact Hs

/-- The rows of the partial product and the slots received through the barrier are what the scatter sends and writes. -/
theorem scatters_intro (c : Dev nD) :
    iprop(((c : Thread nD τ).loc cc0_scratch0 ↦{fullShare} part m c) ∗ (bigSep Finset.univ (barPay c))
        ∗ (bigSep Finset.univ fun k : Fin 31 => dutyTok ER (dmaCell c 0 k) 0 0) ∗ (bigSep Finset.univ fun k : Fin 31 => dutyTok ER (dmaCell (tgt c k) 1 k) 0 0))
      ⊢ (iprop(((c : Thread nD τ).loc cc0_scratch0 ↦[rows c]{fullShare} part m c) ∗ (bigSep Finset.univ (scatterRes m c))
        ∗ bigSep Finset.univ fun k : Fin 31 => iprop(∃ f, outPts (tgt c k) c f)) : sProp 𝕄) := by
  have e : (bigSep Finset.univ (scatterRes m c) : sProp 𝕄) = iprop((bigSep Finset.univ (partPts m c)) ∗ (bigSep Finset.univ fun k : Fin 31 => iprop(∃ f, slotPts (tgt c k) k f))
      ∗ (bigSep Finset.univ fun k : Fin 31 => dutyTok ER (dmaCell c 0 k) 0 0) ∗ (bigSep Finset.univ fun k : Fin 31 => dutyTok ER (dmaCell (tgt c k) 1 k) 0 0)) := by
    rw [← bigSep_sep', ← bigSep_sep', ← bigSep_sep']
    rfl
  have e' : (bigSep Finset.univ (barPay c) : sProp 𝕄) = iprop((bigSep Finset.univ fun k : Fin 31 => iprop(∃ f, slotPts (tgt c k) k f))
      ∗ bigSep Finset.univ fun k : Fin 31 => iprop(∃ f, outPts (tgt c k) c f)) := by
    rw [← bigSep_sep']
    rfl
  rw [e, e', part_split]
  iintro ⟨⟨Hp, Hps⟩, ⟨Hs, Ho⟩, H0, H1⟩
  isplitl [Hp]; · iexact Hp
  isplitl [Hps Hs H0 H1]
  · isplitl [Hps]; · iexact Hps
    isplitl [Hs]; · iexact Hs
    isplitl [H0] <;> iassumption
  · iexact Ho

/-- The summed rows and the rows of the result received through the barrier are what the gather sends and writes. -/
theorem gathers_intro (c : Dev nD) :
    iprop(((c : Thread nD τ).loc cc0_scratch1 ↦{fullShare} red m c) ∗ (bigSep Finset.univ fun k : Fin 31 => iprop(∃ f, outPts (tgt c k) c f))
        ∗ (bigSep Finset.univ fun k : Fin 31 => dutyTok ER (dmaCell c 2 k) 0 0) ∗ (bigSep Finset.univ fun k : Fin 31 => dutyTok ER (dmaCell (tgt c k) 3 k) 0 0))
      ⊢ (iprop(redPts m c 0 ∗ bigSep Finset.univ (gatherRes m c)) : sProp 𝕄) := by
  have e : (bigSep Finset.univ (gatherRes m c) : sProp 𝕄) = iprop((bigSep Finset.univ fun k : Fin 31 => redPts m c k.succ) ∗ (bigSep Finset.univ fun k : Fin 31 => iprop(∃ f, outPts (tgt c k) c f))
      ∗ (bigSep Finset.univ fun k : Fin 31 => dutyTok ER (dmaCell c 2 k) 0 0) ∗ (bigSep Finset.univ fun k : Fin 31 => dutyTok ER (dmaCell (tgt c k) 3 k) 0 0)) := by
    rw [← bigSep_sep', ← bigSep_sep', ← bigSep_sep']
    rfl
  rw [e, red_split]
  iintro ⟨⟨Hr, Hrs⟩, Ho, H2, H3⟩
  isplitl [Hr]; · iexact Hr
  isplitl [Hrs]; · iexact Hrs
  isplitl [Ho]; · iexact Ho
  isplitl [H2] <;> iassumption

theorem waits_eq (c : Dev nD) (a : Fin 4) : (bigSep Finset.univ (waitRes c a) : sProp 𝕄)
    = iprop((bigSep Finset.univ fun k : Fin 31 => cred (tallyAt (dmaCell c a k) () N)) ∗ bigSep Finset.univ fun k : Fin 31 => atPos ER (dmaCell c a k) 0 ∅ 0) := by
  rw [← bigSep_sep']
  rfl
theorem done_eq (c : Dev nD) (a : Fin 4) : (bigSep Finset.univ (doneRes m c a) : sProp 𝕄)
    = iprop((bigSep Finset.univ fun k : Fin 31 => dmaPay m c a k) ∗ bigSep Finset.univ fun k : Fin 31 => atPos ER (dmaCell c a k) 1 ∅ 0) := by
  rw [← bigSep_sep']
  rfl

/-- The rows every other device sent, beside a device's own, are the whole result. -/
theorem collected (c : Dev nD) :
    iprop(((c : Thread nD τ).loc cc0_stg4_0 ↦[rows c]{fullShare} outAll m) ∗ (bigSep Finset.univ fun k : Fin 31 => dmaPay m c 3 k))
      ⊢ ((c : Thread nD τ).loc cc0_stg4_0 ↦{fullShare} outAll m : sProp 𝕄) := by
  have e : (bigSep Finset.univ fun k : Fin 31 => dmaPay m c 3 k : sProp 𝕄) = bigSep Finset.univ fun k : Fin 31 => outPts c (tgt c k) (outAll m) := by
    rw [← bigSep_rev (fun k : Fin 31 => outPts c (tgt c k) (outAll m))]
    refine bigSep_congr fun k _ => ?_
    rw [← src_eq_tgt]
    rfl
  rw [e]
  exact Entails.of_eq (out_split c (outAll m)).symm
theorem left1_back (c : Dev nD) :
    iprop(((c : Thread nD τ).loc cc0_scratch0 ↦[rows c]{fullShare} part m c) ∗ (bigSep Finset.univ fun k : Fin 31 => dmaPay m c 0 k))
      ⊢ ((c : Thread nD τ).loc cc0_scratch0 ↦{fullShare} part m c : sProp 𝕄) := Entails.of_eq (part_split m c).symm
theorem left2_back (c : Dev nD) :
    iprop(redPts m c 0 ∗ (bigSep Finset.univ fun k : Fin 31 => dmaPay m c 2 k))
      ⊢ ((c : Thread nD τ).loc cc0_scratch1 ↦{fullShare} red m c : sProp 𝕄) := Entails.of_eq (red_split m c).symm
theorem arrived (c : Dev nD) :
    (bigSep Finset.univ fun k : Fin 31 => dmaPay m c 1 k) ⊢ ((c : Thread nD τ).loc cc0_scratch2 ↦[landing]{fullShare} landed m c : sProp 𝕄) :=
  Entails.of_eq (landing_eq c (landed m c)).symm

/-- Past its last round a cell is closed: its counter, at zero, is the device's again. -/
theorem close_cells (c : Dev nD) :
    iprop(ctx m K ∗ positions c 1) ⊢ (|={Set.univ}=> bigSep Finset.univ fun i : CI => semVal (kcell (c, i)) 0 : sProp 𝕄) := by
  unfold positions
  refine (bigSep_beside fun i => ?_).trans (bigSep_fupd Finset.univ fun i : CI => (semVal (kcell (c, i)) 0 : sProp 𝕄))
  iintro ⟨#Hc, Ha⟩
  iapply (Rounds.cell_close ER (sched m) (Set.mem_univ (K (c, i))) (fun h => h) (R := 0 + 1) (duties_later m (kcell (c, i))))
  isplitr; · iapply (ctx_inv m K (c, i)); iexact Hc
  iexact Ha

/-! ## The program -/

theorem runs_bind (c : Dev nD) {R A B : sProp 𝕄} {p q : P F PUnit} {Q : PUnit → sProp 𝕄} (h : iprop(R ∗ A) ⊢ runs c p (fun _ => B)) :
    iprop(R ∗ A) ⊢ iprop((B -∗ runs c q Q) -∗ runs c (p >>= fun _ => q) Q) := by
  unfold runs at *
  rw [wp_bind]
  iintro H Hk
  iapply (wp_wand_r frame (wpE (defs₀ (F := F)) 𝒱₀ (c : Thread nD τ) none) Set.univ (Q := fun _ => B))
  isplitl [H]
  · iapply h; iexact H
  · iintro %a HB
    iapply Hk; iexact HB
theorem runs_last (c : Dev nD) {R A B : sProp 𝕄} {p : P F PUnit} {Q : PUnit → sProp 𝕄} (h : iprop(R ∗ A) ⊢ runs c p (fun _ => B)) :
    iprop(R ∗ A) ⊢ iprop((B -∗ |={Set.univ}=> Q ⟨⟩) -∗ runs c p Q) := by
  unfold runs at *
  iintro H Hk
  iapply (wp_fupd frame (wpE (defs₀ (F := F)) 𝒱₀ (c : Thread nD τ) none) Set.univ)
  iapply (wp_wand_r frame (wpE (defs₀ (F := F)) 𝒱₀ (c : Thread nD τ) none) Set.univ (Q := fun _ => B))
  isplitl [H]
  · iapply h; iexact H
  · iintro %a HB
    iapply Hk; iexact HB

/-- What a device's program starts from, beside the records of the cells. -/
def startState (c : Dev nD) : sProp 𝕄 :=
  iprop(owing c (O₀ c) ∗ payToks c ∗ positions c 0 ∗ incoming c ∗ inputs m c ∗ (∃ f, (c : Thread nD τ).loc cc0_stg4_0 ↦{fullShare} f)
    ∗ (∃ f, (c : Thread nD τ).loc cc0_scratch0 ↦{fullShare} f) ∗ (∃ f, (c : Thread nD τ).loc cc0_scratch1 ↦{fullShare} f)
    ∗ ∃ f, (c : Thread nD τ).loc cc0_scratch2 ↦{fullShare} f)
/-- What it ends with. -/
def endState (c : Dev nD) : sProp 𝕄 :=
  iprop(owing c 0 ∗ (bigSep Finset.univ fun i : CI => semVal (kcell (c, i)) 0) ∗ inputs m c ∗ ((c : Thread nD τ).loc cc0_stg4_0 ↦{fullShare} outAll m)
    ∗ (∃ f, (c : Thread nD τ).loc cc0_scratch0 ↦{fullShare} f) ∗ (∃ f, (c : Thread nD τ).loc cc0_scratch1 ↦{fullShare} f)
    ∗ ∃ f, (c : Thread nD τ).loc cc0_scratch2 ↦{fullShare} f)

set_option maxHeartbeats 1000000 in
/-- The program of a device runs from `startState` to `endState`. -/
theorem device_runs (c : Dev nD) : iprop(ctx m K ∗ startState m c) ⊢ runs c (deviceProg c) (fun _ => endState m c) := by
  unfold startState endState payToks positions incoming deviceProg
  rw [bigSep_cells (fun i : CI => (atPos ER (kcell (c, i)) 0 ∅ 0 : sProp 𝕄))]
  iintro ⟨#Hc, HO, ⟨Hb, H0, H1, H2, H3⟩, ⟨Pb, P0, P1, P2, P3⟩, ⟨Cb, C1, C3⟩, Hin, Hout, Hp, Hr, Hl⟩
  ihave Hs := (signals_intro c) $$ [Hb Hout Hl]
  · isplitl [Hb]; · iexact Hb
    isplitl [Hout] <;> iassumption
  icases Hs with ⟨Hs, Hown, ⟨%f0, Hslot⟩⟩
  iapply (runs_bind c (signals m K c)) $$ [HO Hs]
  · isplitr; · iexact Hc
    isplitl [HO] <;> iassumption
  iintro ⟨HO, -⟩
  iapply (runs_bind c (product_runs m K c)) $$ [HO Cb Pb Hin Hp]
  · isplitr; · iexact Hc
    isplitl [HO]; · iexact HO
    isplitl [Cb]; · iexact Cb
    isplitl [Pb]; · iexact Pb
    isplitl [Hin] <;> iassumption
  iintro ⟨HO, Pb, Hpay, Hin, Hp⟩
  ihave Hs := (scatters_intro m c) $$ [Hp Hpay H0 H1]
  · isplitl [Hp]; · iexact Hp
    isplitl [Hpay]; · iexact Hpay
    isplitl [H0] <;> iassumption
  icases Hs with ⟨Hp, Hs, Ho⟩
  iapply (runs_bind c (scatters m K c)) $$ [HO Hs]
  · isplitr; · iexact Hc
    isplitl [HO] <;> iassumption
  iintro ⟨HO, C0⟩
  iapply (runs_bind c (arrives m K c)) $$ [HO C1 P1]
  · isplitr; · iexact Hc
    isplitl [HO]; · iexact HO
    rw [waits_eq]
    isplitl [C1]; · iexact C1
    iexact P1
  rw [done_eq]
  iintro ⟨HO, Hl, P1⟩
  ihave Hl := (arrived m c) $$ Hl
  iapply (runs_bind c (reduce_runs m K c (O₂ c))) $$ [HO Hp Hl Hr Hown]
  · isplitr; · iexact Hc
    isplitl [HO]; · iexact HO
    isplitl [Hp]; · iexact Hp
    isplitl [Hl]; · iexact Hl
    isplitl [Hr] <;> iassumption
  iintro ⟨HO, Hp, Hl, Hr, Hown⟩
  ihave Hs := (gathers_intro m c) $$ [Hr Ho H2 H3]
  · isplitl [Hr]; · iexact Hr
    isplitl [Ho]; · iexact Ho
    isplitl [H2] <;> iassumption
  icases Hs with ⟨Hr, Hs⟩
  iapply (runs_bind c (gathers m K c)) $$ [HO Hs]
  · isplitr; · iexact Hc
    isplitl [HO] <;> iassumption
  iintro ⟨HO, C2⟩
  iapply (runs_bind c (collects m K c)) $$ [HO C3 P3]
  · isplitr; · iexact Hc
    isplitl [HO]; · iexact HO
    rw [waits_eq]
    isplitl [C3]; · iexact C3
    iexact P3
  rw [done_eq]
  iintro ⟨HO, Ho, P3⟩
  ihave Hout := (collected m c) $$ [Hown Ho]
  · isplitl [Hown] <;> iassumption
  iapply (runs_bind c (lefts1 m K c)) $$ [HO C0 P0]
  · isplitr; · iexact Hc
    isplitl [HO]; · iexact HO
    rw [waits_eq]
    isplitl [C0]; · iexact C0
    iexact P0
  rw [done_eq]
  iintro ⟨HO, Hps, P0⟩
  ihave Hp := (left1_back m c) $$ [Hp Hps]
  · isplitl [Hp] <;> iassumption
  iapply (runs_last c (lefts2 m K c)) $$ [HO C2 P2]
  · isplitr; · iexact Hc
    isplitl [HO]; · iexact HO
    rw [waits_eq]
    isplitl [C2]; · iexact C2
    iexact P2
  rw [done_eq]
  iintro ⟨HO, Hrs, P2⟩
  ihave Hr := (left2_back m c) $$ [Hr Hrs]
  · isplitl [Hr] <;> iassumption
  ihave Hl := (slots_join c f0 (landed m c)) $$ [Hslot Hl]
  · isplitl [Hslot] <;> iassumption
  imod (close_cells m K c) $$ [Pb P0 P1 P2 P3] with Hz
  · isplitr; · iexact Hc
    unfold positions
    rw [bigSep_cells]
    isplitl [Pb]; · iexact Pb
    isplitl [P0]; · iexact P0
    isplitl [P1]; · iexact P1
    isplitl [P2]; · iexact P2
    iexact P3
  imodintro
  isplitl [HO]; · iexact HO
  isplitl [Hz]; · iexact Hz
  isplitl [Hin]; · iexact Hin
  isplitl [Hout]; · iexact Hout
  isplitl [Hp]; · iexists _; iexact Hp
  isplitl [Hr]; · iexists _; iexact Hr
  iexact Hl

end Cert.KernelIdeal.Run

end
-- ==== Proof.KernelIdeal.Data.lean ====
/-
  The launch's view of a device: what its one region starts and ends with, and that the body meets it.
-/
module

public import proofs.«01_k».proof.Proof.KernelIdeal.Body
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-- The memory at launch: any contents, every counter zero, any generator registers. -/
def s₀ : MemSt nD τ sig (Elt F) := ⟨m, fun _ => 0, ρ⟩

/-- What the launch deals device `c`: the records of all cells, its tokens, its positions and the credit of what it
    will receive. -/
def start (c : Dev nD) : sProp 𝕄 := iprop((∃ K, ctx m K) ∗ payToks c ∗ positions c 0 ∗ incoming c)

/-- The three scratch buffers, at any contents. -/
def scratches (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

def Φ₀ (c : Dev nD) : sProp 𝕄 := iprop(start m c ∗ scratches c)
def Φ₁ (c : Dev nD) : sProp 𝕄 := iprop((bigSep Finset.univ fun i : CI => semVal (kcell (c, i)) 0) ∗ scratches c)

/-- The region's data: the arrays as the memory has them, the staged operands kept, the staged result at the sum. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opX m c
    | ⟨1, _⟩ => opG m c
    | ⟨2, _⟩ => opU m c
    | ⟨3, _⟩ => opD m c
    | ⟨4, _⟩ => outAll m
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := N_0
def t₀ : Fin cfg0.N := t0_0
theorem fin_N (t : Fin cfg0.N) : t = t₀ := fin_N0 t

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt () t₀.succ ∗ stg c cc0_stg0_0 (opX m c) ∗ stg c cc0_stg1_0 (opG m c)
    ∗ stg c cc0_stg2_0 (opU m c) ∗ stg c cc0_stg3_0 (opD m c) ∗ stg c cc0_stg4_0 (outAll m))

theorem fetch_0 (t : Fin cfg0.N) : (cfg0.win (0 : Fin 5)).fetch t = true := by rw [fin_N t]; rfl
theorem fetch_1 (t : Fin cfg0.N) : (cfg0.win (1 : Fin 5)).fetch t = true := by rw [fin_N t]; rfl
theorem fetch_2 (t : Fin cfg0.N) : (cfg0.win (2 : Fin 5)).fetch t = true := by rw [fin_N t]; rfl
theorem fetch_3 (t : Fin cfg0.N) : (cfg0.win (3 : Fin 5)).fetch t = true := by rw [fin_N t]; rfl

theorem before_0 (c : Dev nD) (d) : (dats m ρ 0 c).before (0 : Fin 5) t₀ d = opX m c := by unfold Dat.before; rw [if_pos (fetch_0 t₀)]; rfl
theorem before_1 (c : Dev nD) (d) : (dats m ρ 0 c).before (1 : Fin 5) t₀ d = opG m c := by unfold Dat.before; rw [if_pos (fetch_1 t₀)]; rfl
theorem before_2 (c : Dev nD) (d) : (dats m ρ 0 c).before (2 : Fin 5) t₀ d = opU m c := by unfold Dat.before; rw [if_pos (fetch_2 t₀)]; rfl
theorem before_3 (c : Dev nD) (d) : (dats m ρ 0 c).before (3 : Fin 5) t₀ d = opD m c := by unfold Dat.before; rw [if_pos (fetch_3 t₀)]; rfl

/-- The launch's state of a device is where its program starts. -/
theorem pre_start (c : Dev nD) : bodyPre m ρ c ⊢ (iprop((∃ K, ctx m K) ∗ startState m c) : sProp 𝕄) := by
  unfold bodyPre Φ₀ start scratches startState inputs owing Dat.owesAt Pipeline.owesWithin
  iintro ⟨⟨⟨Hc, Ht, Hp, Hi⟩, H0, H1, H2⟩, ⟨%W, -, HO⟩, ⟨%d0, %g0, %hg0, HX⟩, ⟨%d1, %g1, %hg1, HG⟩, ⟨%d2, %g2, %hg2, HU⟩, ⟨%d3, %g3, %hg3, HD⟩, ⟨%d4, %g4, -, Hout⟩⟩
  rw [before_0] at hg0; rw [before_1] at hg1; rw [before_2] at hg2; rw [before_3] at hg3
  subst hg0 hg1 hg2 hg3
  isplitl [Hc]; · iexact Hc
  isplitl [HO]; · iexists W; iexact HO
  isplitl [Ht]; · iexact Ht
  isplitl [Hp]; · iexact Hp
  isplitl [Hi]; · iexact Hi
  isplitl [HX HG HU HD]
  · isplitl [HX]; · iexact HX
    isplitl [HG]; · iexact HG
    isplitl [HU] <;> iassumption
  isplitl [Hout]; · iexists g4; iexact Hout
  isplitl [H0]; · iexact H0
  isplitl [H1] <;> iassumption
/-- Where it ends is what the launch takes back. -/
theorem end_post (c : Dev nD) : endState m c ⊢ (bodyPost m ρ c : sProp 𝕄) := by
  unfold bodyPost Φ₁ scratches endState inputs owing Dat.owesAt Pipeline.owesWithin
  iintro ⟨⟨%W, HO⟩, Hz, ⟨HX, HG, HU, HD⟩, Hout, H0, H1, H2⟩
  isplitl [Hz H0 H1 H2]
  · isplitl [Hz]; · iexact Hz
    isplitl [H0]; · iexact H0
    isplitl [H1] <;> iassumption
  isplitl [HO]
  · iexists W
    isplitr; · ipureintro; exact fun _ _ => Or.inl trivial
    iexact HO
  isplitl [HX]
  · iexists _; isplitr; · (ipureintro; rfl)
    iexact HX
  isplitl [HG]
  · iexists _; isplitr; · (ipureintro; rfl)
    iexact HG
  isplitl [HU]
  · iexists _; isplitr; · (ipureintro; rfl)
    iexact HU
  isplitl [HD]
  · iexists _; isplitr; · (ipureintro; rfl)
    iexact HD
  iexists _; isplitr; · (ipureintro; rfl)
  iexact Hout

/-- The body on device `c`. -/
theorem body_runs (c : Dev nD) : bodyPre m ρ c ⊢ runs c (loops (F := F)) (fun _ => bodyPost m ρ c) := by
  unfold loops runs
  simp only [Prog.lift, Prog.bind_op, Prog.bind_ret, wp_deviceId]
  iintro H
  ihave H := (pre_start m ρ c) $$ H
  icases H with ⟨⟨%K, #Hc⟩, Hs⟩
  iapply (wp_wand_r frame (wpE (defs₀ (F := F)) 𝒱₀ (c : Thread nD τ) none) Set.univ (Q := fun _ => endState m c))
  isplitl [Hs]
  · iapply (device_runs m K c)
    isplitr; · iexact Hc
    iexact Hs
  · iintro %a HE
    iapply (end_post m ρ c); iexact HE

set_option maxRecDepth 8000 in
/-- The region's entry is the printed body on the staged operands. -/
theorem entry_body : defs₀ (F := F) Proc.tc 0 (t₀, cfg0.slots t₀) = cc0_body (F := F) xM (Memref.isWhole_whole _) gM (Memref.isWhole_whole _) uM (Memref.isWhole_whole _) dM (Memref.isWhole_whole _)
    oM (Memref.isWhole_whole _) pM (Memref.isWhole_whole _) rM (Memref.isWhole_whole _) bM (Memref.isWhole_whole _)
    cc0_scratch3 cc0_scratch4 cc0_scratch5 cc0_scratch6 := rfl
theorem entry_loops : defs₀ (F := F) Proc.tc 0 (t₀, cfg0.slots t₀) = loops := entry_body.trans body_eq_loops

set_option maxRecDepth 8000 in
/-- What the launch asks of the body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  have e : defs₀ (F := F) Proc.tc 0 (t₀, cfg0.slots t₀) = loops := entry_loops
  simp only [e]
  refine BIBase.Entails.trans (body_runs m ρ c) ?_
  unfold runs
  apply wp_mono
  intro a
  exact BIBase.Entails.refl

end Cert.KernelIdeal.Run

end
-- ==== Proof.KernelIdeal.Funds.lean ====
/-
  What the launch element is made of, and how its tokens, positions, records and credit are dealt to the devices.
-/
module

public import proofs.«01_k».proof.Proof.KernelIdeal.Data

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ)

/-! ## The semaphores -/

/-- The semaphores of the kernel's own arrays that transfers use. -/
abbrev osem : Fin 4 × Fin 31 → SemLoc sig := fun x => csem (.inr x)

theorem osem_scoped : ∀ x : Fin 4 × Fin 31, (osem x).isScoped .tc = true := fun ⟨a, k⟩ => by
  show (csem (.inr (a, k))).isScoped .tc = true
  rw [csem_dma]
  revert a k
  decide +kernel
theorem stage_sem : ∀ (w : Fin 5) (s : Fin (spec0 w).nbuf), ((spec0 w).sem s).val < 5 := by decide
theorem ownSemFacts : Pipeline.OwnSemFacts cfg0.spec osem where
  isScoped := osem_scoped
  inj x y h := Sum.inr.inj (csem_inj h)
  disj x w s h := by
    have h1 := congrArg Fin.val (SemLoc.dma.inj ((csem_dma x.1 x.2).symm.trans h))
    have h2 := stage_sem w s
    rw [semAt_val] at h1
    have h3 : ((cfg0.spec w).sem s).val < 5 := h2
    omega

/-- The barrier semaphore is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems_eq (c : Dev nD) :
    (bigSep Finset.univ fun i : CI => semVal (kcell (c, i)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_univ_of_subsingleton (PUnit.unit : Unit), unscopedSems0_eq]
  rfl

/-! ## The launch element -/

def allCells : Finset (GSem nD τ sig) := Finset.univ.map ⟨kcell, kcell_inj⟩

/-- A device's own duties: those of its barrier, and one of each of its other cells. -/
abbrev TI : Type := Fin 31 ⊕ (Fin 4 × Fin 31)
def tokOf (ct : Dev nD × TI) : GSem nD τ sig × ℕ × Fin 31 := match ct.2 with
  | .inl d => (barCell ct.1, 0, d)
  | .inr x => (kcell (ct.1, .inr x), 0, 0)
theorem tokOf_inj : Function.Injective tokOf := by
  rintro ⟨c, t⟩ ⟨c', t'⟩ h
  rcases t with d | x <;> rcases t' with d' | x'
  · have h1 := kcell_inj (congrArg Prod.fst h)
    have h2 : d = d' := congrArg (fun y : GSem nD τ sig × ℕ × Fin 31 => y.2.2) h
    have h3 : c = c' := (Prod.mk.inj h1).1
    rw [h2, h3]
  · have h1 := kcell_inj (congrArg Prod.fst h)
    exact absurd (Prod.mk.inj h1).2 (fun h => by cases h)
  · have h1 := kcell_inj (congrArg Prod.fst h)
    exact absurd (Prod.mk.inj h1).2 (fun h => by cases h)
  · have h1 := kcell_inj (congrArg Prod.fst h)
    have h3 : c = c' := (Prod.mk.inj h1).1
    have h4 : x = x' := Sum.inr.inj (Prod.mk.inj h1).2
    rw [h3, h4]
def allToks : Finset (GSem nD τ sig × ℕ × Fin 31) := Finset.univ.map ⟨tokOf, tokOf_inj⟩

def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 31 => dutyTok ER (barCell c) 0 d) ∗ (bigSep Finset.univ fun k : Fin 31 => dutyTok ER (dmaCell c 0 k) 0 0)
    ∗ (bigSep Finset.univ fun k : Fin 31 => dutyTok ER (dmaCell c 1 k) 0 0) ∗ (bigSep Finset.univ fun k : Fin 31 => dutyTok ER (dmaCell c 2 k) 0 0)
    ∗ (bigSep Finset.univ fun k : Fin 31 => dutyTok ER (dmaCell c 3 k) 0 0))

theorem bigSep_toks (Φ : TI → sProp 𝕄) :
    bigSep Finset.univ Φ = iprop((bigSep Finset.univ fun d : Fin 31 => Φ (.inl d)) ∗ (bigSep Finset.univ fun k : Fin 31 => Φ (.inr (0, k))) ∗ (bigSep Finset.univ fun k : Fin 31 => Φ (.inr (1, k)))
      ∗ (bigSep Finset.univ fun k : Fin 31 => Φ (.inr (2, k))) ∗ (bigSep Finset.univ fun k : Fin 31 => Φ (.inr (3, k)))) := by
  rw [bigSep_univ_sum, bigSep_arrays]; rfl

/-- What the launch element deals device `c`. -/
def G (c : Dev nD) : sProp 𝕄 :=
  iprop((bigSep Finset.univ fun i : CI => roundState ER (sched m) (kcell (c, i)) 0) ∗ positions c 0
    ∗ (bigSep Finset.univ fun i : CI => reached ER (kcell (c, i)) 0) ∗ toks c)

/-- The records of all cells. -/
def records (K : Dev nD × CI → ℕ) : sProp 𝕄 :=
  iprop((bigSep Finset.univ fun ci : Dev nD × CI => cellInv ER (sched m) (K ci) (kcell ci)) ∗ bigSep Finset.univ fun ci : Dev nD × CI => reached ER (kcell ci) 0)
instance records_persistent (K : Dev nD × CI → ℕ) : BI.Persistent (records m K) := by unfold records; infer_instance

/-- What the devices make of it together. -/
def G' (c : Dev nD) : sProp 𝕄 := iprop((∃ K, records m K) ∗ payToks c ∗ positions c 0)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_toks]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hat']; · iexact Hat'
  isplitl [Hr']; · iexact Hr'
  iexact Htok'

/-! ## The tokens dealt -/

/-- The signal `k` of device `c` pays the duty the barrier `k + 1` places after has for it. -/
def barEquiv : Dev nD × Fin 31 ≃ Dev nD × Fin 31 where
  toFun x := (tgt x.1 x.2, rev x.2)
  invFun x := (tgt x.1 x.2, rev x.2)
  left_inv x := by show (tgt (tgt x.1 x.2) (rev x.2), rev (rev x.2)) = x; rw [tgt_rev, rev_rev]
  right_inv x := by show (tgt (tgt x.1 x.2) (rev x.2), rev (rev x.2)) = x; rw [tgt_rev, rev_rev]
/-- The transfer `k` of device `c` lands on the cell `k` of the device `k + 1` places after. -/
def dmaEquiv : Dev nD × Fin 31 ≃ Dev nD × Fin 31 where
  toFun x := (tgt x.1 x.2, x.2)
  invFun x := (src x.1 x.2, x.2)
  left_inv x := by show (src (tgt x.1 x.2) x.2, x.2) = x; rw [src_tgt]
  right_inv x := by show (tgt (src x.1 x.2) x.2, x.2) = x; rw [tgt_src]

theorem bar_dealt : (bigSep Finset.univ fun c : Dev nD => bigSep Finset.univ fun d : Fin 31 => dutyTok ER (barCell c) 0 d : sProp 𝕄)
    = bigSep Finset.univ fun c : Dev nD => bigSep Finset.univ fun k : Fin 31 => dutyTok ER (barCell (tgt c k)) 0 (rev k) := by
  rw [← bigSep_univ_prod (fun x : Dev nD × Fin 31 => (dutyTok ER (barCell x.1) 0 x.2 : sProp 𝕄)), bigSep_univ_equiv barEquiv, bigSep_univ_prod]
  rfl
theorem dma_dealt (a : Fin 4) : (bigSep Finset.univ fun c : Dev nD => bigSep Finset.univ fun k : Fin 31 => dutyTok ER (dmaCell c a k) 0 0 : sProp 𝕄)
    = bigSep Finset.univ fun c : Dev nD => bigSep Finset.univ fun k : Fin 31 => dutyTok ER (dmaCell (tgt c k) a k) 0 0 := by
  rw [← bigSep_univ_prod (fun x : Dev nD × Fin 31 => (dutyTok ER (dmaCell x.1 a x.2) 0 0 : sProp 𝕄)), bigSep_univ_equiv dmaEquiv, bigSep_univ_prod]
  rfl
theorem toks_dealt : (bigSep Finset.univ fun c : Dev nD => (toks c : sProp 𝕄)) ⊢ bigSep Finset.univ fun c : Dev nD => payToks c := by
  unfold toks payToks
  simp only [bigSep_sep']
  rw [bar_dealt, dma_dealt 1, dma_dealt 3]

/-! ## The records made -/

theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (kcell (c, i))))
          ∗ positions c 0 ∗ (bigSep Finset.univ fun i : CI => reached ER (kcell (c, i)) 0) ∗ toks c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem regroup :
    (bigSep Finset.univ fun c : Dev nD => iprop((bigSep Finset.univ fun i : CI => iprop(∃ κ : ℕ, cellInv ER (sched m) κ (kcell (c, i))))
          ∗ positions c 0 ∗ (bigSep Finset.univ fun i : CI => reached ER (kcell (c, i)) 0) ∗ toks c) : sProp 𝕄)
      ⊢ bigSep Finset.univ (G' m) := by
  simp only [bigSep_sep']
  rw [← bigSep_univ_prod (fun ci : Dev nD × CI => (iprop(∃ κ : ℕ, cellInv ER (sched m) κ (kcell ci)) : sProp 𝕄)),
    ← bigSep_univ_prod (fun ci : Dev nD × CI => (reached ER (kcell ci) 0 : sProp 𝕄))]
  iintro ⟨HI, Hat, #HR, Htok⟩
  ihave HK := (BI.bigSep_exists_pi Finset.univ (fun (ci : Dev nD × CI) (κ : ℕ) => (cellInv ER (sched m) κ (kcell ci) : sProp 𝕄))) $$ HI
  icases HK with ⟨%K, #HI⟩
  ihave Htk := (toks_dealt (F := F)) $$ Htok
  have h : iprop(records m K ∗ bigSep Finset.univ fun c : Dev nD => iprop(payToks c ∗ positions c 0)) ⊢ bigSep Finset.univ (G' m) :=
    bigSep_beside fun c => by
      unfold G'
      iintro ⟨#H, Ht, Hp⟩
      isplitr; · iexists K; iexact H
      isplitl [Ht] <;> iassumption
  iapply h
  rw [bigSep_sep']
  isplitr
  · unfold records; isplitl; · iexact HI
    iexact HR
  isplitl [Htk]; · iexact Htk
  iexact Hat

/-- From the counters at zero and the launch element, all devices' records under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The credit -/

/-- What all devices together owe one cell. -/
theorem owed_sum (i : Fin 31 → CI) (w : ℕ) (c : Dev nD) (j : CI) :
    ∑ d : Dev nD, owedTo i w d 0 (kcell (c, j)) () = ∑ k : Fin 31, if j = i k then w else 0 := by
  simp only [owedTo_apply, from_zero]
  rw [Finset.sum_comm]
  refine Finset.sum_congr rfl fun k _ => ?_
  rw [Finset.sum_eq_single (src c k)]
  · rw [tgt_src]
    by_cases h : j = i k
    · rw [if_pos h, h, if_pos rfl]
    · rw [if_neg h, if_neg fun h' => h (Prod.mk.inj (kcell_inj h')).2]
  · intro d _ hd
    exact if_neg fun h' => hd (by rw [(Prod.mk.inj (kcell_inj h')).1, src_tgt])
  · exact fun h => absurd (Finset.mem_univ _) h

theorem owed_all (c : Dev nD) (j : CI) :
    ∑ d : Dev nD, O₀ d (kcell (c, j)) () = (∑ k : Fin 31, if j = toDma 3 k then N else 0) + (∑ k : Fin 31, if j = toDma 1 k then N else 0)
      + ∑ k : Fin 31, if j = toBar k then 1 else 0 := by
  rw [← owed_sum, ← owed_sum, ← owed_sum, ← Finset.sum_add_distrib, ← Finset.sum_add_distrib]
  rfl

theorem sum_dma (a a' : Fin 4) (k : Fin 31) : (∑ k' : Fin 31, if (.inr (a, k) : CI) = toDma a' k' then N else 0) = if a = a' then N else 0 := by
  rw [Finset.sum_eq_single k]
  · by_cases h : a = a'
    · rw [if_pos h, h]; exact if_pos rfl
    · rw [if_neg h]; exact if_neg fun h' => h (Prod.mk.inj (Sum.inr.inj h')).1
  · intro k' _ hk
    exact if_neg fun h' => hk (Prod.mk.inj (Sum.inr.inj h')).2.symm
  · exact fun h => absurd (Finset.mem_univ _) h
theorem sum_none {j : CI} {i : Fin 31 → CI} (h : ∀ k, j ≠ i k) (w : ℕ) : (∑ k : Fin 31, if j = i k then w else 0) = 0 :=
  Finset.sum_eq_zero fun k _ => if_neg (h k)

theorem owed_bar (c : Dev nD) : ∑ d : Dev nD, O₀ d (barCell c) () = 31 := by
  rw [owed_all, sum_none (fun k h => by cases h), sum_none (fun k h => by cases h)]
  have h : ∀ k : Fin 31, (if (.inl () : CI) = toBar k then 1 else 0) = 1 := fun k => if_pos rfl
  rw [Finset.sum_congr rfl fun k _ => h k, Finset.sum_const, Finset.card_univ, Fintype.card_fin]
  rfl
theorem owed_1 (c : Dev nD) (k : Fin 31) : ∑ d : Dev nD, O₀ d (dmaCell c 1 k) () = N := by
  rw [owed_all, sum_dma, sum_dma, sum_none (fun k h => by cases h), if_neg (by decide), if_pos rfl, Nat.zero_add, Nat.add_zero]
theorem owed_3 (c : Dev nD) (k : Fin 31) : ∑ d : Dev nD, O₀ d (dmaCell c 3 k) () = N := by
  rw [owed_all, sum_dma, sum_dma, sum_none (fun k h => by cases h), if_pos rfl, if_neg (by decide), Nat.add_zero]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The launch's credit holds what device `c` will receive. -/
theorem creds (c : Dev nD) : (Pipeline.launchCred O₀ c : sProp 𝕄) ⊢ incoming c := by
  have h : (Pipeline.launchCred O₀ c : sProp 𝕄)
      ⊢ bigSep Finset.univ fun i : CI => cred (tallyOn (kcell (c, i)) (launchCredit (Pipeline.owing O₀) 0 (kcell (c, i)))) := by
    unfold Pipeline.launchCred
    have e := bigSep_map (s := (Finset.univ : Finset CI)) (e := (⟨csem, csem_inj⟩ : CI ↪ SemLoc sig))
      (Φ := fun sm : SemLoc sig => (cred (tallyOn ((c : Thread nD τ), sm) (launchCredit (Pipeline.owing O₀) 0 ((c : Thread nD τ), sm))) : sProp 𝕄))
    exact (bigSep_subset (Finset.subset_univ _)).trans (Entails.of_eq e)
  refine h.trans ?_
  unfold incoming
  rw [bigSep_cells, launch_at _ _ (owed_bar c), bigSep_congr (s := Finset.univ) fun (k : Fin 31) _ => congrArg (fun t => (cred t : sProp 𝕄)) (launch_at _ _ (owed_1 c k)),
    bigSep_congr (s := Finset.univ) fun (k : Fin 31) _ => congrArg (fun t => (cred t : sProp 𝕄)) (launch_at _ _ (owed_3 c k))]
  iintro ⟨Hb, -, H1, -, H3⟩
  isplitl [Hb]; · iexact Hb
  isplitl [H1] <;> iassumption

end Cert.KernelIdeal.Run

end
-- ==== Proof.KernelIdeal.Launch.lean ====
/-
  The run of the kernel: it ends with each device's arrays at known contents and every counter at zero.
-/
module

public import proofs.«01_k».proof.Proof.KernelIdeal.Funds
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hl : (levAts L lv : sProp 𝕄) ⊢ levels := by unfold levels; exact BIBase.Entails.refl
  unfold start G' records ctx
  iintro ⟨-, #Hlev, Hcr, -, ⟨%K, #HI, #HR⟩, Ht, Hp⟩
  ihave Hc := (creds (F := F) c) $$ Hcr
  imodintro
  isplitl
  · isplitr
    · iexists K
      isplitr; · iexact HI
      isplitr; · iexact HR
      iapply hl; iexact Hlev
    isplitl [Ht]; · iexact Ht
    isplitl [Hp] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratches
  rw [sems_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-! ## The run -/

/-- What each array of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- From any memory with zero counters, every fair execution of the kernel on the 32 devices ends, with each device's
    arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.KernelIdeal.Contents.lean ====
/-
  What the arrays hold when the launch is over: the four arguments what they held, the result the sum of the devices'
  contributions (`outAll m`, the same on every device).
-/
module

public import proofs.«01_k».proof.Proof.Gen.KernelIdeal.Points
public import proofs.«01_k».proof.Proof.KernelIdeal.Launch

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueKit

variable {F : FTy → Type} [FloatOps F]

local notation "𝕄" => MT nD τ sig Unit (Elt F) ℕ UU ℕ

variable (m : (ℓ : Loc nD τ sig) → Buf (Elt F) ℓ) (ρ : Dev nD → PrngReg) (c : Dev nD)

open Idealize.ShloMosaic.Pipeline (Dat Cfg Window)

/-- Reading the result's one block is reading the whole array. -/
theorem read_result (f : Buf (Elt F) ((c : Thread nD τ).loc main_v1)) : (win0_4.blk t0_0).view.read (Elt F) f = f :=
  Memref.read_access_unit_zero (Elt F) main_v1
    (show (fun a => (win0_4.index t0_0) a * main_v1.ty.shape.size a) = fun _ => 0 from
      funext fun a => by fin_cases a <;> decide) (fun a => by fin_cases a <;> decide) f

/-- The result array ends at the sum of the contributions, -/
theorem final_result : finalA m ρ c (4 : Fin 5) = outAll m := by
  have hw : ((cfg0.win (4 : Fin 5)).blk t0_0).view.read (Elt F) ((dats (F := F) m ρ 0 c).arrAt (4 : Fin 5) cfg0.N)
      = (dats (F := F) m ρ 0 c).flushed (4 : Fin 5) t0_0 := by
    rw [show cfg0.N = t0_0.val + 1 from rfl, (dats (F := F) m ρ 0 c).arrAt_succ (4 : Fin 5) t0_0, flush0_4, if_pos rfl]
    exact View.read_write_univ _ _
  have hf : (dats (F := F) m ρ 0 c).flushed (4 : Fin 5) t0_0 = outAll m := funext fun _ => rfl
  exact (read_result c _).symm.trans (hw.trans hf)
/-- an argument at what it held. -/
theorem final_arg (w : Fin 5) (hw : (cfg0.win w).isOut = false) :
    finalA m ρ c w = m ((cfg0.win w).arr.view.loc (c : Thread nD τ)) :=
  (dats (F := F) m ρ 0 c).arrAt_in w hw _

/-- Every run ends with the arguments unchanged, the result at `outAll m` on every device, and every counter at zero. -/
theorem run_results :
    θ_run (defs (F := F)) (onTc (τ := τ) (main (F := F))) ⟨m, fun _ => 0, ρ⟩ (fun r =>
      (∀ c : Dev nD, r.2.mem ((c.tc : Thread nD τ).loc main_v1) = outAll m
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run _ _ _).mono (fun _ h => ⟨fun c => ⟨(h.1 c (4 : Fin 5)).trans (final_result m ρ c),
      (h.1 c (0 : Fin 5)).trans (final_arg m ρ c 0 rfl), (h.1 c (1 : Fin 5)).trans (final_arg m ρ c 1 rfl),
      (h.1 c (2 : Fin 5)).trans (final_arg m ρ c 2 rfl), (h.1 c (3 : Fin 5)).trans (final_arg m ρ c 3 rfl)⟩, h.2⟩)
    (run_main m ρ)

end Cert.KernelIdeal.Run

end
-- ==== Proof.Value.Terms.lean ====
/-
  The problem's result as a sum of one term for each of the 16384 hidden columns, over the extended reals, and the two
  facts that the kernel's way of writing it needs: the gate in its two forms, and the sum cut into 32 blocks of 512.
-/
module

public import Idealize.ShloMosaic.Lib.Pointwise
public import Idealize.ShloMosaic.Lib.ValueIdx
public import Idealize.ShloMosaic.Lib.IdealHost

@[expose] public section

noncomputable section

namespace Cert.Value

open Idealize.ShloMosaic
open scoped BigOperators

/-- `x / (1 + exp (-x))`. -/
def silu (x : EReal) : EReal := Ideal.div x (1 + Ideal.exp (-x))

/-- An exponential is not negative. -/
theorem exp_nonneg (x : EReal) : 0 ≤ Ideal.exp x := by
  induction x using EReal.rec with
  | bot => exact le_refl _
  | coe r => rw [Ideal.exp_coe]; exact EReal.coe_nonneg.mpr (Real.exp_pos r).le
  | top => exact le_top
/-- So the gate's divisor is not zero. -/
theorem divisor_ne (x : EReal) : 1 + Ideal.exp (-x) ≠ 0 :=
  (lt_of_lt_of_le zero_lt_one (le_add_of_nonneg_right (exp_nonneg (-x)))).ne'
/-- The kernel's gate, a product with the logistic function, is the quotient, at the infinities too. -/
theorem mul_logistic (x : EReal) : x * Ideal.logistic x = silu x := Ideal.mul_one_div (divisor_ne x)

/-- What hidden column `k` adds to the element in row `r` and column `j`, for operands with `n` hidden columns. -/
def term {n : ℕ} (X : FVec Ideal ⟨2, ![256, 256]⟩ .f32) (G U : FVec Ideal ⟨2, ![256, n]⟩ .f32) (D : FVec Ideal ⟨2, ![n, 256]⟩ .f32)
    (r j : Fin 256) (k : Fin n) : EReal :=
  ((∑ a : Fin 256, X (ix2 r a) * G (ix2 a k)) * silu (∑ a : Fin 256, X (ix2 r a) * U (ix2 a k))) * D (ix2 k j)

/-- Hidden column `k` of device `c`'s block, among all. -/
def col (c : Fin 32) (k : Fin 512) : Fin 16384 := ⟨c.val * 512 + k.val, by have := c.isLt; have := k.isLt; omega⟩

/-- A hidden column is one of one device's block. -/
def colEquiv : Fin 32 × Fin 512 ≃ Fin 16384 where
  toFun p := col p.1 p.2
  invFun n := (⟨n.val / 512, by have := n.isLt; omega⟩, ⟨n.val % 512, Nat.mod_lt _ (by decide)⟩)
  left_inv p := by
    have := p.2.isLt
    refine Prod.ext (Fin.ext ?_) (Fin.ext ?_)
    · show (p.1.val * 512 + p.2.val) / 512 = p.1.val
      omega
    · show (p.1.val * 512 + p.2.val) % 512 = p.2.val
      omega
  right_inv n := Fin.ext (by
    show n.val / 512 * 512 + n.val % 512 = n.val
    omega)

/-- The sum over all hidden columns is the sum over the devices of the sums over their blocks. -/
theorem sum_blocks (f : Fin 16384 → EReal) : ∑ c : Fin 32, ∑ k : Fin 512, f (col c k) = ∑ n : Fin 16384, f n :=
  (Fintype.sum_prod_type' fun c k => f (col c k)).symm.trans (colEquiv.sum_comp f)

/-- The terms of a device's blocks are the whole arrays' terms of its columns. -/
theorem term_block (X : FVec Ideal ⟨2, ![256, 256]⟩ .f32) (G U : FVec Ideal ⟨2, ![256, 16384]⟩ .f32) (D : FVec Ideal ⟨2, ![16384, 256]⟩ .f32)
    (c : Fin 32) (r j : Fin 256) (k : Fin 512) :
    term X (Layout.block ⟨2, ![256, 512]⟩ ⟨2, ![256, 16384]⟩ 1 32 c G) (Layout.block ⟨2, ![256, 512]⟩ ⟨2, ![256, 16384]⟩ 1 32 c U)
      (Layout.block ⟨2, ![512, 256]⟩ ⟨2, ![16384, 256]⟩ 0 32 c D) r j k = term X G U D r j (col c k) := by
  have hc : ∀ a : Fin 256, (by decide : Layout.Tiles ⟨2, ![256, 512]⟩ ⟨2, ![256, 16384]⟩ 1 32).idx c (ix2 a k) = ix2 a (col c k) := fun a =>
    funext fun b => by fin_cases b <;> rfl
  have hr : (by decide : Layout.Tiles ⟨2, ![512, 256]⟩ ⟨2, ![16384, 256]⟩ 0 32).idx c (ix2 k j) = ix2 (col c k) j :=
    funext fun b => by fin_cases b <;> rfl
  unfold term
  simp only [Layout.block_apply, hc, hr]

end Cert.Value

end
-- ==== Proof.Value.Reference.lean ====
/-
  What the reference computes, element by element: the sum of the terms over all hidden columns.
-/
module

public import proofs.«01_k».proof.Proof.Gen.ReferenceIdeal.Run
public import proofs.«01_k».proof.Proof.Value.Terms

@[expose] public section

noncomputable section

namespace Cert.Value

open Idealize.ShloMosaic Cert.ReferenceIdeal Cert.ReferenceIdeal.Gen
open scoped BigOperators

/-- The reference's result, as its operations compose it. -/
def refOut (X : FVec Ideal S256x256 .f32) (G U : FVec Ideal S256x16384 .f32) (D : FVec Ideal S16384x256 .f32) : FVec Ideal S256x256 .f32 :=
  Host.dotGeneral dot_S256x16384_S16384x256_S256x256_1_0_0_1_n_n none
    (mulf (Host.dotGeneral dot_S256x256_S256x16384_S256x16384_1_0_0_1_n_n none X G)
      (Host.divf (Host.dotGeneral dot_S256x256_S256x16384_S256x16384_1_0_0_1_n_n none X U)
        (addf (broadcastInDim S256x16384 ![] bcast_S_S256x16384 (constant S_ .f32 0x3F800000#32))
          (Host.exp (Host.negf (Host.dotGeneral dot_S256x256_S256x16384_S256x16384_1_0_0_1_n_n none X U)))))) D

/-- Each of its elements is the sum of the terms. -/
theorem refOut_apply (X : FVec Ideal S256x256 .f32) (G U : FVec Ideal S256x16384 .f32) (D : FVec Ideal S16384x256 .f32) (r j : Fin 256) :
    refOut X G U D (ix2 r j) = ∑ n : Fin 16384, term X G U D r j n := by
  pointwise [refOut, term, silu]

end Cert.Value

end
-- ==== Proof.Value.Device.lean ====
/-
  What one device computes: each element of its contribution is the sum of the terms over its 512 hidden columns, and
  each element that it sums is the sum of the devices' contributions.
-/
module

public import proofs.«01_k».proof.Proof.KernelIdeal.Ring
public import proofs.«01_k».proof.Proof.Value.Terms

@[expose] public section

noncomputable section

namespace Cert.Value

open Idealize.ShloMosaic Idealize.ShloMosaic.TcCoe Cert.KernelIdeal Cert.KernelIdeal.Gen Cert.KernelIdeal.Run
open scoped BigOperators

/-- A device's contribution, element by element. -/
theorem pay1_apply (X : FVec Ideal S256x256 .f32) (G U : FVec Ideal S256x512 .f32) (D : FVec Ideal S512x256 .f32) (r j : Fin 256) :
    k0_pay1 (F := Ideal) X G U D (ix2 r j) = ∑ k : Fin 512, term X G U D r j k := by
  pointwise [k0_pay1, term]
  simp only [← mul_logistic]

/-- The sum of a device's own rows and the 31 landed blocks, element by element. -/
theorem pay2_apply (a : FVec Ideal S8x256 .f32) (b : FVec Ideal S31x8x256 .f32) (r : Fin 8) (j : Fin 256) :
    k0_pay2 (F := Ideal) a b (ix2 r j) = a (ix2 r j) + ∑ s : Fin 31, b (ix3 s r j) := by
  pointwise [k0_pay2]

variable (m : (ℓ : Loc nD τ sig) → Buf (Elt Ideal) ℓ)

/-- The element in row `r` and column `j` of device `c`'s contribution. -/
def contribution (c : Dev nD) (r j : Fin 256) : EReal := part m c (ix2 r j)

/-- The devices 0 to 31 places before `c` are all devices. -/
theorem before_bijective (c : Dev nD) : Function.Bijective (before c) := by revert c; decide +kernel
theorem before_zero (c : Dev nD) : before c 0 = c := by revert c; decide +kernel

/-- What device `d` sums, in a row of its own, is the sum over all devices of their contributions to that row. -/
theorem red_apply (d : Dev nD) (r : Fin 8) (j : Fin 256) :
    red m d (ix2 r j) = ∑ c : Dev nD, contribution m c (rowIn d r) j := by
  have h : red m d (ix2 r j) = contribution m d (rowIn d r) j + ∑ s : Fin 31, contribution m (before d s.succ) (rowIn d r) j :=
    pay2_apply (ownRows m d) (slots m d) r j
  rw [h, ← (before_bijective d).sum_comp fun c => contribution m c (rowIn d r) j]
  refine Eq.trans ?_ (Fin.sum_univ_succ fun s : Fin 32 => contribution m (before d s) (rowIn d r) j).symm
  rw [before_zero]

/-- A row is the row, at its place, of the device that sums it. -/
theorem rowIn_owner (r : Fin 256) : rowIn (ownerOf r) (placeOf r) = r := Fin.ext (by
  show 8 * (r.val / 8) + r.val % 8 = r.val
  omega)

/-- Each element of the result is the sum of the devices' contributions. -/
theorem outAll_apply (r j : Fin 256) : outAll m (ix2 r j) = ∑ c : Dev nD, contribution m c r j := by
  have h : outAll m (ix2 r j) = red m (ownerOf r) (ix2 (placeOf r) j) := rfl
  rw [h, red_apply, rowIn_owner]

end Cert.Value

end
-- ==== Proof.Value.Equation.lean ====
/-
  The equation: from memories in which the devices hold their parts of the reference's arrays, what every device's
  result array ends at is the reference's result.
-/
module

public import proofs.«01_k».proof.Proof.Value.Reference
public import proofs.«01_k».proof.Proof.Value.Device

@[expose] public section

noncomputable section

namespace Cert.Value

open Idealize.ShloMosaic Idealize.ShloMosaic.TcCoe Cert.KernelIdeal Cert.KernelIdeal.Gen Cert.KernelIdeal.Run
open scoped BigOperators

variable (m : (ℓ : Loc nD τ sig) → Buf (Elt Ideal) ℓ) (c : Dev nD)

/-- A device's staged operands are its argument arrays. -/
theorem opX_eq : opX m c = m ((c : Thread nD τ).loc main_arg0) :=
  Memref.read_access_unit_zero (Elt Ideal) main_arg0
    (show (fun a => (win0_0.index t0_0) a * main_arg0.ty.shape.size a) = fun _ => 0 from
      funext fun a => by fin_cases a <;> decide) (fun a => by fin_cases a <;> decide) _
theorem opG_eq : opG m c = m ((c : Thread nD τ).loc main_arg1) :=
  Memref.read_access_unit_zero (Elt Ideal) main_arg1
    (show (fun a => (win0_1.index t0_0) a * main_arg1.ty.shape.size a) = fun _ => 0 from
      funext fun a => by fin_cases a <;> decide) (fun a => by fin_cases a <;> decide) _
theorem opU_eq : opU m c = m ((c : Thread nD τ).loc main_arg2) :=
  Memref.read_access_unit_zero (Elt Ideal) main_arg2
    (show (fun a => (win0_2.index t0_0) a * main_arg2.ty.shape.size a) = fun _ => 0 from
      funext fun a => by fin_cases a <;> decide) (fun a => by fin_cases a <;> decide) _
theorem opD_eq : opD m c = m ((c : Thread nD τ).loc main_arg3) :=
  Memref.read_access_unit_zero (Elt Ideal) main_arg3
    (show (fun a => (win0_3.index t0_0) a * main_arg3.ty.shape.size a) = fun _ => 0 from
      funext fun a => by fin_cases a <;> decide) (fun a => by fin_cases a <;> decide) _

variable (X : FVec Ideal ⟨2, ![256, 256]⟩ .f32) (G U : FVec Ideal ⟨2, ![256, 16384]⟩ .f32) (D : FVec Ideal ⟨2, ![16384, 256]⟩ .f32)

/-- The devices hold their parts of the four arrays. -/
def Dealt : Prop := ∀ c : Dev nD,
  m ((c.tc : Thread nD τ).loc main_arg0) = X
  ∧ m ((c.tc : Thread nD τ).loc main_arg1) = Layout.block ⟨2, ![256, 512]⟩ ⟨2, ![256, 16384]⟩ 1 32 c G
  ∧ m ((c.tc : Thread nD τ).loc main_arg2) = Layout.block ⟨2, ![256, 512]⟩ ⟨2, ![256, 16384]⟩ 1 32 c U
  ∧ m ((c.tc : Thread nD τ).loc main_arg3) = Layout.block ⟨2, ![512, 256]⟩ ⟨2, ![16384, 256]⟩ 0 32 c D

variable {m X G U D}

/-- Then a device's contribution is the sum of the whole arrays' terms over its hidden columns, -/
theorem part_dealt (h : Dealt m X G U D) (r j : Fin 256) :
    contribution m c r j = ∑ k : Fin 512, term X G U D r j (col c k) := by
  have hp : part m c = k0_pay1 (F := Ideal) X (Layout.block ⟨2, ![256, 512]⟩ ⟨2, ![256, 16384]⟩ 1 32 c G)
      (Layout.block ⟨2, ![256, 512]⟩ ⟨2, ![256, 16384]⟩ 1 32 c U) (Layout.block ⟨2, ![512, 256]⟩ ⟨2, ![16384, 256]⟩ 0 32 c D) := by
    unfold part
    rw [opX_eq, opG_eq, opU_eq, opD_eq, (h c).1, (h c).2.1, (h c).2.2.1, (h c).2.2.2]
  unfold contribution
  rw [hp, pay1_apply]
  exact Finset.sum_congr rfl fun k _ => term_block X G U D c r j k

/-- and the result is the reference's. -/
theorem outAll_eq (h : Dealt m X G U D) : outAll m = refOut X G U D := funext fun i => by
  have e : ∑ c : Dev nD, contribution m c (i 0) (i 1) = ∑ n : Fin 16384, term X G U D (i 0) (i 1) n :=
    (Finset.sum_congr rfl fun c _ => part_dealt c h (i 0) (i 1)).trans (sum_blocks fun n => term X G U D (i 0) (i 1) n)
  rw [eq_ix2 i]
  exact (outAll_apply m (i 0) (i 1)).trans (e.trans (refOut_apply X G U D (i 0) (i 1)).symm)

end Cert.Value

end
-- ==== Proof.lean ====
/-
  The proof of `Cert.Claim`. The two readings of the kernel are run by the same argument, written once over any float
  values (Proof/KernelIdeal and, for the other reading, Proof/Kernel): a protocol of the semaphore cells and the rows each
  copy carries, the device's program stepped through it, and the launch. The reference is a straight-line host program;
  that the two results are equal is Proof/Value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Contents
public import proofs.«01_k».proof.Proof.KernelIdeal.Contents
public import proofs.«01_k».proof.Proof.Value.Equation
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frame_kernel : Cert.quiescent_Kernel := fun m ρ _ =>
  (θ_run _ _ _).mono (fun _ h => ⟨fun c => (h.1 c).2, h.2⟩) (Cert.Kernel.Run.run_results (F := Bits) m ρ)

/-- The same of its idealization. -/
theorem frame_ideal : Cert.quiescent_KernelIdeal := fun m ρ _ =>
  (θ_run _ _ _).mono (fun _ h => ⟨fun c => (h.1 c).2, h.2⟩) (Cert.KernelIdeal.Run.run_results (F := Ideal) m ρ)

/-- The reference runs and keeps its arguments; it declares no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Every device's result array ends at the reference's result, from memories holding parts of the same arrays. -/
theorem value : Cert.algebraic_KernelIdeal_ReferenceIdeal := by
  intro m ρ m' ρ' _ hagree
  refine ⟨_, ?_, Cert.ReferenceIdeal.Value.run (F := Ideal) m' ρ' |> (θ_run _ _ _).mono fun _ h => h 0⟩
  exact (θ_run _ _ _).mono (fun _ h c => ⟨(h.1 c).1.trans (Cert.Value.outAll_eq hagree), (h.1 c).2⟩)
    (Cert.KernelIdeal.Run.run_results (F := Ideal) m ρ)

theorem claim : Cert.Claim := ⟨Cert.Kernel.Gen.facts, Cert.KernelIdeal.Gen.facts, Cert.ReferenceIdeal.Gen.facts,
  frame_kernel, frame_ideal, frame_reference, trivial, value⟩

end Cert.Proof

end
